-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x128x4096 : Shape := ⟨3, ![32, 128, 4096]⟩
abbrev S16 : Shape := ⟨1, ![16]⟩
abbrev S15 : Shape := ⟨1, ![15]⟩
abbrev S5x1x1 : Shape := ⟨3, ![5, 1, 1]⟩
abbrev S5 : Shape := ⟨1, ![5]⟩
abbrev S1x128x4096 : Shape := ⟨3, ![1, 128, 4096]⟩
abbrev S128x256 : Shape := ⟨2, ![128, 256]⟩
abbrev S1x4096x256 : Shape := ⟨3, ![1, 4096, 256]⟩
abbrev S1x1x1 : Shape := ⟨3, ![1, 1, 1]⟩

abbrev nBuf : Space → Nat
  | .hbm => 86
  | .vmem => 6
  | .smem => 1
  | _ => 0

abbrev bufTy : (tb : Table) → Fin (tcTables nBuf tb) → BufTy
  | .hbm, ⟨0, _⟩ => ⟨S128x4096, .bf16⟩
  | .hbm, ⟨1, _⟩ => ⟨S4096x256, .bf16⟩
  | .hbm, ⟨2, _⟩ => ⟨S32, .i32⟩
  | .hbm, ⟨3, _⟩ => ⟨S_, .i32⟩
  | .hbm, ⟨4, _⟩ => ⟨S32, .i32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i1⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S32x1, .i32⟩
  | .hbm, ⟨14, _⟩ => ⟨S32, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S1, .i1⟩
  | .hbm, ⟨31, _⟩ => ⟨S1, .i1⟩
  | .hbm, ⟨32, _⟩ => ⟨S1, .i1⟩
  | .hbm, ⟨33, _⟩ => ⟨S_, .i1⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S32, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S32, .i32⟩
  | .hbm, ⟨48, _⟩ => ⟨S32, .i32⟩
  | .hbm, ⟨49, _⟩ => ⟨S_, .i32⟩
  | .hbm, ⟨50, _⟩ => ⟨S32, .i32⟩
  | .hbm, ⟨51, _⟩ => ⟨S32, .i1⟩
  | .hbm, ⟨52, _⟩ => ⟨S_, .i32⟩
  | .hbm, ⟨53, _⟩ => ⟨S32, .i32⟩
  | .hbm, ⟨54, _⟩ => ⟨S32, .i1⟩
  | .hbm, ⟨55, _⟩ => ⟨S_, .i32⟩
  | .hbm, ⟨56, _⟩ => ⟨S_, .i1⟩
  | .hbm, ⟨57, _⟩ => ⟨S32, .i1⟩
  | .hbm, ⟨58, _⟩ => ⟨S32, .i1⟩
  | .hbm, ⟨59, _⟩ => ⟨S32, .i1⟩
  | .hbm, ⟨60, _⟩ => ⟨S32, .i32⟩
  | .hbm, ⟨61, _⟩ => ⟨S32, .i32⟩
  | .hbm, ⟨62, _⟩ => ⟨S32, .i32⟩
  | .hbm, ⟨63, _⟩ => ⟨S_, .i32⟩
  | .hbm, ⟨64, _⟩ => ⟨S32, .i32⟩
  | .hbm, ⟨65, _⟩ => ⟨S32, .i1⟩
  | .hbm, ⟨66, _⟩ => ⟨S_, .i32⟩
  | .hbm, ⟨67, _⟩ => ⟨S32, .i32⟩
  | .hbm, ⟨68, _⟩ => ⟨S32, .i32⟩
  | .hbm, ⟨69, _⟩ => ⟨S32, .i32⟩
  | .hbm, ⟨70, _⟩ => ⟨S32x1, .i32⟩
  | .hbm, ⟨71, _⟩ => ⟨S1, .i32⟩
  | .hbm, ⟨72, _⟩ => ⟨S_, .i32⟩
  | .hbm, ⟨73, _⟩ => ⟨S32x1, .i32⟩
  | .hbm, ⟨74, _⟩ => ⟨S32x1, .i1⟩
  | .hbm, ⟨75, _⟩ => ⟨S1x1, .i32⟩
  | .hbm, ⟨76, _⟩ => ⟨S32x1, .i32⟩
  | .hbm, ⟨77, _⟩ => ⟨S32x1, .i1⟩
  | .hbm, ⟨78, _⟩ => ⟨S32x1, .i1⟩
  | .hbm, ⟨79, _⟩ => ⟨S_, .i1⟩
  | .hbm, ⟨80, _⟩ => ⟨S32, .i1⟩
  | .hbm, ⟨81, _⟩ => ⟨S32, .i32⟩
  | .hbm, ⟨82, _⟩ => ⟨S_, .i32⟩
  | .hbm, ⟨83, _⟩ => ⟨S32, .i32⟩
  | .hbm, ⟨84, _⟩ => ⟨S32, .i32⟩
  | .hbm, ⟨85, _⟩ => ⟨S4096x256, .f32⟩
  | .local _ .vmem, ⟨0, _⟩ => ⟨S128x4096, .bf16⟩
  | .local _ .vmem, ⟨1, _⟩ => ⟨S4096x256, .bf16⟩
  | .local _ .vmem, ⟨2, _⟩ => ⟨S4096x256, .f32⟩
  | .local _ .vmem, ⟨3, _⟩ => ⟨S32x128x4096, .bf16⟩
  | .local _ .vmem, ⟨4, _⟩ => ⟨S1x1, .f32⟩
  | .local _ .vmem, ⟨5, _⟩ => ⟨S5x1x1, .f32⟩
  | .local _ .smem, ⟨0, _⟩ => ⟨S32, .i32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  (ofTc nBuf bufTy 1 76 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_c_4 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_c_0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_c_1 : Ref sig .tc := ⟨.hbm, 27, rfl⟩
abbrev main_call0_c_2 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_c_3 : Ref sig .tc := ⟨.hbm, 33, rfl⟩
abbrev main_call0_v8 : Ref sig .tc := ⟨.hbm, 34, rfl⟩
abbrev main_call0_v9 : Ref sig .tc := ⟨.hbm, 35, rfl⟩
abbrev main_call0_c_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_5 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v18 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_c_4 : Ref sig .tc := ⟨.hbm, 82, rfl⟩
abbrev main_call2_v14 : Ref sig .tc := ⟨.hbm, 83, rfl⟩
abbrev main_v19 : Ref sig .tc := ⟨.hbm, 84, rfl⟩
abbrev main_v20 : Ref sig .tc := ⟨.hbm, 85, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch5 : Ref sig .tc := ⟨.vmem, 4, rfl⟩
abbrev cc0_scratch6 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (v3 : BitVec 32) : Nat :=
  let c0_i32 : BitVec 32 := 0#32
  let c1_i32_1 : BitVec 32 := 1#32
  let v6 : BitVec 32 := Scalar.muli v3 c1_i32_1
  let v7 : BitVec 32 := Scalar.addi c0_i32 v6
  v7.toNat

def k0_dev2 (v4 : BitVec 32) : Nat :=
  let c0_i32_4 : BitVec 32 := 0#32
  let c1_i32_3 : BitVec 32 := 1#32
  let v8 : BitVec 32 := Scalar.muli v4 c1_i32_3
  let v9 : BitVec 32 := Scalar.addi c0_i32_4 v8
  v9.toNat

def k0_dev3 (v4 : BitVec 32) : Nat :=
  let c0_i32_14 : BitVec 32 := 0#32
  let c1_i32_13 : BitVec 32 := 1#32
  let v15 : BitVec 32 := Scalar.muli v4 c1_i32_13
  let v16 : BitVec 32 := Scalar.addi c0_i32_14 v15
  v16.toNat
def k0_dev4 (v3 : BitVec 32) : Nat :=
  let c0_i32_23 : BitVec 32 := 0#32
  let c1_i32_22 : BitVec 32 := 1#32
  let v25 : BitVec 32 := Scalar.muli v3 c1_i32_22
  let v26 : BitVec 32 := Scalar.addi c0_i32_23 v25
  v26.toNat
def k0_off1 (v35 : BitVec 32) : Fin 2 → Nat :=
  let c128_i32 : BitVec 32 := 128#32
  let v41 : BitVec 32 := Scalar.muli v35 c128_i32
  let v42 : Index := Scalar.indexCast v41
  let c0_34 : Index := 0#32
  ![v42.toNat, 0]

def k0_chk3 (v35 : BitVec 32) : Prop :=
  (∀ a, (k0_off1 v35) a + S128x256.size a ≤ S4096x256.size a)
theorem k0_off1_inb : ∀ (v35 : BitVec 32) (k0_hw3 : k0_chk3 v35), ∀ a, (k0_off1 v35) a + S128x256.size a ≤ S4096x256.size a := fun v35 k0_hw3 => k0_hw3

def k0_dev5 (v4 : BitVec 32) : Nat :=
  let c0_i32_60 : BitVec 32 := 0#32
  let c1_i32_59 : BitVec 32 := 1#32
  let v60 : BitVec 32 := Scalar.muli v4 c1_i32_59
  let v61 : BitVec 32 := Scalar.addi c0_i32_60 v60
  v61.toNat
def k0_dev6 (v3 : BitVec 32) : Nat :=
  let c0_i32_69 : BitVec 32 := 0#32
  let c1_i32_68 : BitVec 32 := 1#32
  let v70 : BitVec 32 := Scalar.muli v3 c1_i32_68
  let v71 : BitVec 32 := Scalar.addi c0_i32_69 v70
  v71.toNat
def k0_off2 (v80 : BitVec 32) : Fin 2 → Nat :=
  let c128_i32_81 : BitVec 32 := 128#32
  let v86 : BitVec 32 := Scalar.muli v80 c128_i32_81
  let v87 : Index := Scalar.indexCast v86
  let c0_82 : Index := 0#32
  ![v87.toNat, 0]

def k0_chk4 (v80 : BitVec 32) : Prop :=
  (∀ a, (k0_off2 v80) a + S128x256.size a ≤ S4096x256.size a)
theorem k0_off2_inb : ∀ (v80 : BitVec 32) (k0_hw4 : k0_chk4 v80), ∀ a, (k0_off2 v80) a + S128x256.size a ≤ S4096x256.size a := fun v80 k0_hw4 => k0_hw4

def k0_off3 (v89 : BitVec 32) : Fin 2 → Nat :=
  let c128_i32_90 : BitVec 32 := 128#32
  let v95 : BitVec 32 := Scalar.muli v89 c128_i32_90
  let v96 : Index := Scalar.indexCast v95
  let c0_91 : Index := 0#32
  ![v96.toNat, 0]

def k0_chk5 (v89 : BitVec 32) : Prop :=
  (∀ a, (k0_off3 v89) a + S128x256.size a ≤ S4096x256.size a)
theorem k0_off3_inb : ∀ (v89 : BitVec 32) (k0_hw5 : k0_chk5 v89), ∀ a, (k0_off3 v89) a + S128x256.size a ≤ S4096x256.size a := fun v89 k0_hw5 => k0_hw5

def k0_dev7 (v4 : BitVec 32) : Nat :=
  let c0_i32_116 : BitVec 32 := 0#32
  let c1_i32_115 : BitVec 32 := 1#32
  let v114 : BitVec 32 := Scalar.muli v4 c1_i32_115
  let v115 : BitVec 32 := Scalar.addi c0_i32_116 v114
  v115.toNat
def k0_dev8 (v3 : BitVec 32) : Nat :=
  let c0_i32_125 : BitVec 32 := 0#32
  let c1_i32_124 : BitVec 32 := 1#32
  let v124 : BitVec 32 := Scalar.muli v3 c1_i32_124
  let v125 : BitVec 32 := Scalar.addi c0_i32_125 v124
  v125.toNat
def k0_off4 (v134 : BitVec 32) : Fin 2 → Nat :=
  let c128_i32_136 : BitVec 32 := 128#32
  let v140 : BitVec 32 := Scalar.muli v134 c128_i32_136
  let v141 : Index := Scalar.indexCast v140
  let c0_137 : Index := 0#32
  ![v141.toNat, 0]

def k0_chk6 (v134 : BitVec 32) : Prop :=
  (∀ a, (k0_off4 v134) a + S128x256.size a ≤ S4096x256.size a)
theorem k0_off4_inb : ∀ (v134 : BitVec 32) (k0_hw6 : k0_chk6 v134), ∀ a, (k0_off4 v134) a + S128x256.size a ≤ S4096x256.size a := fun v134 k0_hw6 => k0_hw6

def k0_off5 (v143 : BitVec 32) : Fin 2 → Nat :=
  let c128_i32_144 : BitVec 32 := 128#32
  let v149 : BitVec 32 := Scalar.muli v143 c128_i32_144
  let v150 : Index := Scalar.indexCast v149
  let c0_145 : Index := 0#32
  ![v150.toNat, 0]

def k0_chk7 (v143 : BitVec 32) : Prop :=
  (∀ a, (k0_off5 v143) a + S128x256.size a ≤ S4096x256.size a)
theorem k0_off5_inb : ∀ (v143 : BitVec 32) (k0_hw7 : k0_chk7 v143), ∀ a, (k0_off5 v143) a + S128x256.size a ≤ S4096x256.size a := fun v143 k0_hw7 => k0_hw7

def k0_dev9 (v4 : BitVec 32) : Nat :=
  let c0_i32_170 : BitVec 32 := 0#32
  let c1_i32_169 : BitVec 32 := 1#32
  let v168 : BitVec 32 := Scalar.muli v4 c1_i32_169
  let v169 : BitVec 32 := Scalar.addi c0_i32_170 v168
  v169.toNat
def k0_dev10 (v3 : BitVec 32) : Nat :=
  let c0_i32_179 : BitVec 32 := 0#32
  let c1_i32_178 : BitVec 32 := 1#32
  let v178 : BitVec 32 := Scalar.muli v3 c1_i32_178
  let v179 : BitVec 32 := Scalar.addi c0_i32_179 v178
  v179.toNat
def k0_off6 (v188 : BitVec 32) : Fin 2 → Nat :=
  let c128_i32_190 : BitVec 32 := 128#32
  let v194 : BitVec 32 := Scalar.muli v188 c128_i32_190
  let v195 : Index := Scalar.indexCast v194
  let c0_191 : Index := 0#32
  ![v195.toNat, 0]

def k0_chk8 (v188 : BitVec 32) : Prop :=
  (∀ a, (k0_off6 v188) a + S128x256.size a ≤ S4096x256.size a)
theorem k0_off6_inb : ∀ (v188 : BitVec 32) (k0_hw8 : k0_chk8 v188), ∀ a, (k0_off6 v188) a + S128x256.size a ≤ S4096x256.size a := fun v188 k0_hw8 => k0_hw8

def k0_off7 (v197 : BitVec 32) : Fin 2 → Nat :=
  let c128_i32_198 : BitVec 32 := 128#32
  let v203 : BitVec 32 := Scalar.muli v197 c128_i32_198
  let v204 : Index := Scalar.indexCast v203
  let c0_199 : Index := 0#32
  ![v204.toNat, 0]

def k0_chk9 (v197 : BitVec 32) : Prop :=
  (∀ a, (k0_off7 v197) a + S128x256.size a ≤ S4096x256.size a)
theorem k0_off7_inb : ∀ (v197 : BitVec 32) (k0_hw9 : k0_chk9 v197), ∀ a, (k0_off7 v197) a + S128x256.size a ≤ S4096x256.size a := fun v197 k0_hw9 => k0_hw9

def k0_dev11 (v4 : BitVec 32) : Nat :=
  let c0_i32_224 : BitVec 32 := 0#32
  let c1_i32_223 : BitVec 32 := 1#32
  let v222 : BitVec 32 := Scalar.muli v4 c1_i32_223
  let v223 : BitVec 32 := Scalar.addi c0_i32_224 v222
  v223.toNat
def k0_dev12 (v3 : BitVec 32) : Nat :=
  let c0_i32_233 : BitVec 32 := 0#32
  let c1_i32_232 : BitVec 32 := 1#32
  let v232 : BitVec 32 := Scalar.muli v3 c1_i32_232
  let v233 : BitVec 32 := Scalar.addi c0_i32_233 v232
  v233.toNat
def k0_off8 (v242 : BitVec 32) : Fin 2 → Nat :=
  let c128_i32_244 : BitVec 32 := 128#32
  let v248 : BitVec 32 := Scalar.muli v242 c128_i32_244
  let v249 : Index := Scalar.indexCast v248
  let c0_245 : Index := 0#32
  ![v249.toNat, 0]

def k0_chk10 (v242 : BitVec 32) : Prop :=
  (∀ a, (k0_off8 v242) a + S128x256.size a ≤ S4096x256.size a)
theorem k0_off8_inb : ∀ (v242 : BitVec 32) (k0_hw10 : k0_chk10 v242), ∀ a, (k0_off8 v242) a + S128x256.size a ≤ S4096x256.size a := fun v242 k0_hw10 => k0_hw10

def k0_off9 (v251 : BitVec 32) : Fin 2 → Nat :=
  let c128_i32_252 : BitVec 32 := 128#32
  let v257 : BitVec 32 := Scalar.muli v251 c128_i32_252
  let v258 : Index := Scalar.indexCast v257
  let c0_253 : Index := 0#32
  ![v258.toNat, 0]

def k0_chk11 (v251 : BitVec 32) : Prop :=
  (∀ a, (k0_off9 v251) a + S128x256.size a ≤ S4096x256.size a)
theorem k0_off9_inb : ∀ (v251 : BitVec 32) (k0_hw11 : k0_chk11 v251), ∀ a, (k0_off9 v251) a + S128x256.size a ≤ S4096x256.size a := fun v251 k0_hw11 => k0_hw11

def k0_dev13 (v4 : BitVec 32) : Nat :=
  let c0_i32_278 : BitVec 32 := 0#32
  let c1_i32_277 : BitVec 32 := 1#32
  let v276 : BitVec 32 := Scalar.muli v4 c1_i32_277
  let v277 : BitVec 32 := Scalar.addi c0_i32_278 v276
  v277.toNat
def k0_dev14 (v3 : BitVec 32) : Nat :=
  let c0_i32_287 : BitVec 32 := 0#32
  let c1_i32_286 : BitVec 32 := 1#32
  let v286 : BitVec 32 := Scalar.muli v3 c1_i32_286
  let v287 : BitVec 32 := Scalar.addi c0_i32_287 v286
  v287.toNat
def k0_off10 (v296 : BitVec 32) : Fin 2 → Nat :=
  let c128_i32_298 : BitVec 32 := 128#32
  let v302 : BitVec 32 := Scalar.muli v296 c128_i32_298
  let v303 : Index := Scalar.indexCast v302
  let c0_299 : Index := 0#32
  ![v303.toNat, 0]

def k0_chk12 (v296 : BitVec 32) : Prop :=
  (∀ a, (k0_off10 v296) a + S128x256.size a ≤ S4096x256.size a)
theorem k0_off10_inb : ∀ (v296 : BitVec 32) (k0_hw12 : k0_chk12 v296), ∀ a, (k0_off10 v296) a + S128x256.size a ≤ S4096x256.size a := fun v296 k0_hw12 => k0_hw12

def k0_off11 (v305 : BitVec 32) : Fin 2 → Nat :=
  let c128_i32_306 : BitVec 32 := 128#32
  let v311 : BitVec 32 := Scalar.muli v305 c128_i32_306
  let v312 : Index := Scalar.indexCast v311
  let c0_307 : Index := 0#32
  ![v312.toNat, 0]

def k0_chk13 (v305 : BitVec 32) : Prop :=
  (∀ a, (k0_off11 v305) a + S128x256.size a ≤ S4096x256.size a)
theorem k0_off11_inb : ∀ (v305 : BitVec 32) (k0_hw13 : k0_chk13 v305), ∀ a, (k0_off11 v305) a + S128x256.size a ≤ S4096x256.size a := fun v305 k0_hw13 => k0_hw13

def k0_dev15 (v4 : BitVec 32) : Nat :=
  let c0_i32_332 : BitVec 32 := 0#32
  let c1_i32_331 : BitVec 32 := 1#32
  let v330 : BitVec 32 := Scalar.muli v4 c1_i32_331
  let v331 : BitVec 32 := Scalar.addi c0_i32_332 v330
  v331.toNat
def k0_dev16 (v3 : BitVec 32) : Nat :=
  let c0_i32_341 : BitVec 32 := 0#32
  let c1_i32_340 : BitVec 32 := 1#32
  let v340 : BitVec 32 := Scalar.muli v3 c1_i32_340
  let v341 : BitVec 32 := Scalar.addi c0_i32_341 v340
  v341.toNat
def k0_off12 (v350 : BitVec 32) : Fin 2 → Nat :=
  let c128_i32_352 : BitVec 32 := 128#32
  let v356 : BitVec 32 := Scalar.muli v350 c128_i32_352
  let v357 : Index := Scalar.indexCast v356
  let c0_353 : Index := 0#32
  ![v357.toNat, 0]

def k0_chk14 (v350 : BitVec 32) : Prop :=
  (∀ a, (k0_off12 v350) a + S128x256.size a ≤ S4096x256.size a)
theorem k0_off12_inb : ∀ (v350 : BitVec 32) (k0_hw14 : k0_chk14 v350), ∀ a, (k0_off12 v350) a + S128x256.size a ≤ S4096x256.size a := fun v350 k0_hw14 => k0_hw14

def k0_off13 (v359 : BitVec 32) : Fin 2 → Nat :=
  let c128_i32_360 : BitVec 32 := 128#32
  let v365 : BitVec 32 := Scalar.muli v359 c128_i32_360
  let v366 : Index := Scalar.indexCast v365
  let c0_361 : Index := 0#32
  ![v366.toNat, 0]

def k0_chk15 (v359 : BitVec 32) : Prop :=
  (∀ a, (k0_off13 v359) a + S128x256.size a ≤ S4096x256.size a)
theorem k0_off13_inb : ∀ (v359 : BitVec 32) (k0_hw15 : k0_chk15 v359), ∀ a, (k0_off13 v359) a + S128x256.size a ≤ S4096x256.size a := fun v359 k0_hw15 => k0_hw15

def k0_dev17 (v4 : BitVec 32) : Nat :=
  let c0_i32_386 : BitVec 32 := 0#32
  let c1_i32_385 : BitVec 32 := 1#32
  let v384 : BitVec 32 := Scalar.muli v4 c1_i32_385
  let v385 : BitVec 32 := Scalar.addi c0_i32_386 v384
  v385.toNat
def k0_dev18 (v3 : BitVec 32) : Nat :=
  let c0_i32_395 : BitVec 32 := 0#32
  let c1_i32_394 : BitVec 32 := 1#32
  let v394 : BitVec 32 := Scalar.muli v3 c1_i32_394
  let v395 : BitVec 32 := Scalar.addi c0_i32_395 v394
  v395.toNat
def k0_off14 (v404 : BitVec 32) : Fin 2 → Nat :=
  let c128_i32_406 : BitVec 32 := 128#32
  let v410 : BitVec 32 := Scalar.muli v404 c128_i32_406
  let v411 : Index := Scalar.indexCast v410
  let c0_407 : Index := 0#32
  ![v411.toNat, 0]

def k0_chk16 (v404 : BitVec 32) : Prop :=
  (∀ a, (k0_off14 v404) a + S128x256.size a ≤ S4096x256.size a)
theorem k0_off14_inb : ∀ (v404 : BitVec 32) (k0_hw16 : k0_chk16 v404), ∀ a, (k0_off14 v404) a + S128x256.size a ≤ S4096x256.size a := fun v404 k0_hw16 => k0_hw16

def k0_off15 (v413 : BitVec 32) : Fin 2 → Nat :=
  let c128_i32_414 : BitVec 32 := 128#32
  let v419 : BitVec 32 := Scalar.muli v413 c128_i32_414
  let v420 : Index := Scalar.indexCast v419
  let c0_415 : Index := 0#32
  ![v420.toNat, 0]

def k0_chk17 (v413 : BitVec 32) : Prop :=
  (∀ a, (k0_off15 v413) a + S128x256.size a ≤ S4096x256.size a)
theorem k0_off15_inb : ∀ (v413 : BitVec 32) (k0_hw17 : k0_chk17 v413), ∀ a, (k0_off15 v413) a + S128x256.size a ≤ S4096x256.size a := fun v413 k0_hw17 => k0_hw17

def k0_dev19 (v4 : BitVec 32) : Nat :=
  let c0_i32_440 : BitVec 32 := 0#32
  let c1_i32_439 : BitVec 32 := 1#32
  let v438 : BitVec 32 := Scalar.muli v4 c1_i32_439
  let v439 : BitVec 32 := Scalar.addi c0_i32_440 v438
  v439.toNat
def k0_dev20 (v3 : BitVec 32) : Nat :=
  let c0_i32_449 : BitVec 32 := 0#32
  let c1_i32_448 : BitVec 32 := 1#32
  let v448 : BitVec 32 := Scalar.muli v3 c1_i32_448
  let v449 : BitVec 32 := Scalar.addi c0_i32_449 v448
  v449.toNat
def k0_off16 (v458 : BitVec 32) : Fin 2 → Nat :=
  let c128_i32_460 : BitVec 32 := 128#32
  let v464 : BitVec 32 := Scalar.muli v458 c128_i32_460
  let v465 : Index := Scalar.indexCast v464
  let c0_461 : Index := 0#32
  ![v465.toNat, 0]

def k0_chk18 (v458 : BitVec 32) : Prop :=
  (∀ a, (k0_off16 v458) a + S128x256.size a ≤ S4096x256.size a)
theorem k0_off16_inb : ∀ (v458 : BitVec 32) (k0_hw18 : k0_chk18 v458), ∀ a, (k0_off16 v458) a + S128x256.size a ≤ S4096x256.size a := fun v458 k0_hw18 => k0_hw18

def k0_off17 (v467 : BitVec 32) : Fin 2 → Nat :=
  let c128_i32_468 : BitVec 32 := 128#32
  let v473 : BitVec 32 := Scalar.muli v467 c128_i32_468
  let v474 : Index := Scalar.indexCast v473
  let c0_469 : Index := 0#32
  ![v474.toNat, 0]

def k0_chk19 (v467 : BitVec 32) : Prop :=
  (∀ a, (k0_off17 v467) a + S128x256.size a ≤ S4096x256.size a)
theorem k0_off17_inb : ∀ (v467 : BitVec 32) (k0_hw19 : k0_chk19 v467), ∀ a, (k0_off17 v467) a + S128x256.size a ≤ S4096x256.size a := fun v467 k0_hw19 => k0_hw19

def k0_dev21 (v4 : BitVec 32) : Nat :=
  let c0_i32_494 : BitVec 32 := 0#32
  let c1_i32_493 : BitVec 32 := 1#32
  let v492 : BitVec 32 := Scalar.muli v4 c1_i32_493
  let v493 : BitVec 32 := Scalar.addi c0_i32_494 v492
  v493.toNat
def k0_dev22 (v3 : BitVec 32) : Nat :=
  let c0_i32_503 : BitVec 32 := 0#32
  let c1_i32_502 : BitVec 32 := 1#32
  let v502 : BitVec 32 := Scalar.muli v3 c1_i32_502
  let v503 : BitVec 32 := Scalar.addi c0_i32_503 v502
  v503.toNat
def k0_off18 (v512 : BitVec 32) : Fin 2 → Nat :=
  let c128_i32_514 : BitVec 32 := 128#32
  let v518 : BitVec 32 := Scalar.muli v512 c128_i32_514
  let v519 : Index := Scalar.indexCast v518
  let c0_515 : Index := 0#32
  ![v519.toNat, 0]

def k0_chk20 (v512 : BitVec 32) : Prop :=
  (∀ a, (k0_off18 v512) a + S128x256.size a ≤ S4096x256.size a)
theorem k0_off18_inb : ∀ (v512 : BitVec 32) (k0_hw20 : k0_chk20 v512), ∀ a, (k0_off18 v512) a + S128x256.size a ≤ S4096x256.size a := fun v512 k0_hw20 => k0_hw20

def k0_off19 (v521 : BitVec 32) : Fin 2 → Nat :=
  let c128_i32_522 : BitVec 32 := 128#32
  let v527 : BitVec 32 := Scalar.muli v521 c128_i32_522
  let v528 : Index := Scalar.indexCast v527
  let c0_523 : Index := 0#32
  ![v528.toNat, 0]

def k0_chk21 (v521 : BitVec 32) : Prop :=
  (∀ a, (k0_off19 v521) a + S128x256.size a ≤ S4096x256.size a)
theorem k0_off19_inb : ∀ (v521 : BitVec 32) (k0_hw21 : k0_chk21 v521), ∀ a, (k0_off19 v521) a + S128x256.size a ≤ S4096x256.size a := fun v521 k0_hw21 => k0_hw21

def k0_dev23 (v4 : BitVec 32) : Nat :=
  let c0_i32_548 : BitVec 32 := 0#32
  let c1_i32_547 : BitVec 32 := 1#32
  let v546 : BitVec 32 := Scalar.muli v4 c1_i32_547
  let v547 : BitVec 32 := Scalar.addi c0_i32_548 v546
  v547.toNat
def k0_dev24 (v3 : BitVec 32) : Nat :=
  let c0_i32_557 : BitVec 32 := 0#32
  let c1_i32_556 : BitVec 32 := 1#32
  let v556 : BitVec 32 := Scalar.muli v3 c1_i32_556
  let v557 : BitVec 32 := Scalar.addi c0_i32_557 v556
  v557.toNat
def k0_off20 (v566 : BitVec 32) : Fin 2 → Nat :=
  let c128_i32_568 : BitVec 32 := 128#32
  let v572 : BitVec 32 := Scalar.muli v566 c128_i32_568
  let v573 : Index := Scalar.indexCast v572
  let c0_569 : Index := 0#32
  ![v573.toNat, 0]

def k0_chk22 (v566 : BitVec 32) : Prop :=
  (∀ a, (k0_off20 v566) a + S128x256.size a ≤ S4096x256.size a)
theorem k0_off20_inb : ∀ (v566 : BitVec 32) (k0_hw22 : k0_chk22 v566), ∀ a, (k0_off20 v566) a + S128x256.size a ≤ S4096x256.size a := fun v566 k0_hw22 => k0_hw22

def k0_off21 (v575 : BitVec 32) : Fin 2 → Nat :=
  let c128_i32_576 : BitVec 32 := 128#32
  let v581 : BitVec 32 := Scalar.muli v575 c128_i32_576
  let v582 : Index := Scalar.indexCast v581
  let c0_577 : Index := 0#32
  ![v582.toNat, 0]

def k0_chk23 (v575 : BitVec 32) : Prop :=
  (∀ a, (k0_off21 v575) a + S128x256.size a ≤ S4096x256.size a)
theorem k0_off21_inb : ∀ (v575 : BitVec 32) (k0_hw23 : k0_chk23 v575), ∀ a, (k0_off21 v575) a + S128x256.size a ≤ S4096x256.size a := fun v575 k0_hw23 => k0_hw23

def k0_dev25 (v4 : BitVec 32) : Nat :=
  let c0_i32_602 : BitVec 32 := 0#32
  let c1_i32_601 : BitVec 32 := 1#32
  let v600 : BitVec 32 := Scalar.muli v4 c1_i32_601
  let v601 : BitVec 32 := Scalar.addi c0_i32_602 v600
  v601.toNat
def k0_dev26 (v3 : BitVec 32) : Nat :=
  let c0_i32_611 : BitVec 32 := 0#32
  let c1_i32_610 : BitVec 32 := 1#32
  let v610 : BitVec 32 := Scalar.muli v3 c1_i32_610
  let v611 : BitVec 32 := Scalar.addi c0_i32_611 v610
  v611.toNat
def k0_off22 (v620 : BitVec 32) : Fin 2 → Nat :=
  let c128_i32_622 : BitVec 32 := 128#32
  let v626 : BitVec 32 := Scalar.muli v620 c128_i32_622
  let v627 : Index := Scalar.indexCast v626
  let c0_623 : Index := 0#32
  ![v627.toNat, 0]

def k0_chk24 (v620 : BitVec 32) : Prop :=
  (∀ a, (k0_off22 v620) a + S128x256.size a ≤ S4096x256.size a)
theorem k0_off22_inb : ∀ (v620 : BitVec 32) (k0_hw24 : k0_chk24 v620), ∀ a, (k0_off22 v620) a + S128x256.size a ≤ S4096x256.size a := fun v620 k0_hw24 => k0_hw24

def k0_off23 (v629 : BitVec 32) : Fin 2 → Nat :=
  let c128_i32_630 : BitVec 32 := 128#32
  let v635 : BitVec 32 := Scalar.muli v629 c128_i32_630
  let v636 : Index := Scalar.indexCast v635
  let c0_631 : Index := 0#32
  ![v636.toNat, 0]

def k0_chk25 (v629 : BitVec 32) : Prop :=
  (∀ a, (k0_off23 v629) a + S128x256.size a ≤ S4096x256.size a)
theorem k0_off23_inb : ∀ (v629 : BitVec 32) (k0_hw25 : k0_chk25 v629), ∀ a, (k0_off23 v629) a + S128x256.size a ≤ S4096x256.size a := fun v629 k0_hw25 => k0_hw25

def k0_dev27 (v4 : BitVec 32) : Nat :=
  let c0_i32_656 : BitVec 32 := 0#32
  let c1_i32_655 : BitVec 32 := 1#32
  let v654 : BitVec 32 := Scalar.muli v4 c1_i32_655
  let v655 : BitVec 32 := Scalar.addi c0_i32_656 v654
  v655.toNat
def k0_dev28 (v3 : BitVec 32) : Nat :=
  let c0_i32_665 : BitVec 32 := 0#32
  let c1_i32_664 : BitVec 32 := 1#32
  let v664 : BitVec 32 := Scalar.muli v3 c1_i32_664
  let v665 : BitVec 32 := Scalar.addi c0_i32_665 v664
  v665.toNat
def k0_off24 (v674 : BitVec 32) : Fin 2 → Nat :=
  let c128_i32_676 : BitVec 32 := 128#32
  let v680 : BitVec 32 := Scalar.muli v674 c128_i32_676
  let v681 : Index := Scalar.indexCast v680
  let c0_677 : Index := 0#32
  ![v681.toNat, 0]

def k0_chk26 (v674 : BitVec 32) : Prop :=
  (∀ a, (k0_off24 v674) a + S128x256.size a ≤ S4096x256.size a)
theorem k0_off24_inb : ∀ (v674 : BitVec 32) (k0_hw26 : k0_chk26 v674), ∀ a, (k0_off24 v674) a + S128x256.size a ≤ S4096x256.size a := fun v674 k0_hw26 => k0_hw26

def k0_off25 (v683 : BitVec 32) : Fin 2 → Nat :=
  let c128_i32_684 : BitVec 32 := 128#32
  let v689 : BitVec 32 := Scalar.muli v683 c128_i32_684
  let v690 : Index := Scalar.indexCast v689
  let c0_685 : Index := 0#32
  ![v690.toNat, 0]

def k0_chk27 (v683 : BitVec 32) : Prop :=
  (∀ a, (k0_off25 v683) a + S128x256.size a ≤ S4096x256.size a)
theorem k0_off25_inb : ∀ (v683 : BitVec 32) (k0_hw27 : k0_chk27 v683), ∀ a, (k0_off25 v683) a + S128x256.size a ≤ S4096x256.size a := fun v683 k0_hw27 => k0_hw27

def k0_dev29 (v4 : BitVec 32) : Nat :=
  let c0_i32_710 : BitVec 32 := 0#32
  let c1_i32_709 : BitVec 32 := 1#32
  let v708 : BitVec 32 := Scalar.muli v4 c1_i32_709
  let v709 : BitVec 32 := Scalar.addi c0_i32_710 v708
  v709.toNat
def k0_dev30 (v3 : BitVec 32) : Nat :=
  let c0_i32_719 : BitVec 32 := 0#32
  let c1_i32_718 : BitVec 32 := 1#32
  let v718 : BitVec 32 := Scalar.muli v3 c1_i32_718
  let v719 : BitVec 32 := Scalar.addi c0_i32_719 v718
  v719.toNat
def k0_off26 (v728 : BitVec 32) : Fin 2 → Nat :=
  let c128_i32_730 : BitVec 32 := 128#32
  let v734 : BitVec 32 := Scalar.muli v728 c128_i32_730
  let v735 : Index := Scalar.indexCast v734
  let c0_731 : Index := 0#32
  ![v735.toNat, 0]

def k0_chk28 (v728 : BitVec 32) : Prop :=
  (∀ a, (k0_off26 v728) a + S128x256.size a ≤ S4096x256.size a)
theorem k0_off26_inb : ∀ (v728 : BitVec 32) (k0_hw28 : k0_chk28 v728), ∀ a, (k0_off26 v728) a + S128x256.size a ≤ S4096x256.size a := fun v728 k0_hw28 => k0_hw28

def k0_off27 (v737 : BitVec 32) : Fin 2 → Nat :=
  let c128_i32_738 : BitVec 32 := 128#32
  let v743 : BitVec 32 := Scalar.muli v737 c128_i32_738
  let v744 : Index := Scalar.indexCast v743
  let c0_739 : Index := 0#32
  ![v744.toNat, 0]

def k0_chk29 (v737 : BitVec 32) : Prop :=
  (∀ a, (k0_off27 v737) a + S128x256.size a ≤ S4096x256.size a)
theorem k0_off27_inb : ∀ (v737 : BitVec 32) (k0_hw29 : k0_chk29 v737), ∀ a, (k0_off27 v737) a + S128x256.size a ≤ S4096x256.size a := fun v737 k0_hw29 => k0_hw29

def k0_dev31 (v4 : BitVec 32) : Nat :=
  let c0_i32_764 : BitVec 32 := 0#32
  let c1_i32_763 : BitVec 32 := 1#32
  let v762 : BitVec 32 := Scalar.muli v4 c1_i32_763
  let v763 : BitVec 32 := Scalar.addi c0_i32_764 v762
  v763.toNat
def k0_dev32 (v3 : BitVec 32) : Nat :=
  let c0_i32_773 : BitVec 32 := 0#32
  let c1_i32_772 : BitVec 32 := 1#32
  let v772 : BitVec 32 := Scalar.muli v3 c1_i32_772
  let v773 : BitVec 32 := Scalar.addi c0_i32_773 v772
  v773.toNat

def k0_chk1 (v3 : BitVec 32) : Prop :=
  ((k0_dev1 v3) < nD) ∧
  ((k0_dev4 v3) < nD) ∧
  ((k0_dev6 v3) < nD) ∧
  ((k0_dev8 v3) < nD) ∧
  ((k0_dev10 v3) < nD) ∧
  ((k0_dev12 v3) < nD) ∧
  ((k0_dev14 v3) < nD) ∧
  ((k0_dev16 v3) < nD) ∧
  ((k0_dev18 v3) < nD) ∧
  ((k0_dev20 v3) < nD) ∧
  ((k0_dev22 v3) < nD) ∧
  ((k0_dev24 v3) < nD) ∧
  ((k0_dev26 v3) < nD) ∧
  ((k0_dev28 v3) < nD) ∧
  ((k0_dev30 v3) < nD) ∧
  ((k0_dev32 v3) < nD)
theorem k0_dev1_lt : ∀ (v3 : BitVec 32) (k0_hw1 : k0_chk1 v3), (k0_dev1 v3) < nD := fun v3 k0_hw1 => k0_hw1.1
theorem k0_dev4_lt : ∀ (v3 : BitVec 32) (k0_hw1 : k0_chk1 v3), (k0_dev4 v3) < nD := fun v3 k0_hw1 => k0_hw1.2.1
theorem k0_dev6_lt : ∀ (v3 : BitVec 32) (k0_hw1 : k0_chk1 v3), (k0_dev6 v3) < nD := fun v3 k0_hw1 => k0_hw1.2.2.1
theorem k0_dev8_lt : ∀ (v3 : BitVec 32) (k0_hw1 : k0_chk1 v3), (k0_dev8 v3) < nD := fun v3 k0_hw1 => k0_hw1.2.2.2.1
theorem k0_dev10_lt : ∀ (v3 : BitVec 32) (k0_hw1 : k0_chk1 v3), (k0_dev10 v3) < nD := fun v3 k0_hw1 => k0_hw1.2.2.2.2.1
theorem k0_dev12_lt : ∀ (v3 : BitVec 32) (k0_hw1 : k0_chk1 v3), (k0_dev12 v3) < nD := fun v3 k0_hw1 => k0_hw1.2.2.2.2.2.1
theorem k0_dev14_lt : ∀ (v3 : BitVec 32) (k0_hw1 : k0_chk1 v3), (k0_dev14 v3) < nD := fun v3 k0_hw1 => k0_hw1.2.2.2.2.2.2.1
theorem k0_dev16_lt : ∀ (v3 : BitVec 32) (k0_hw1 : k0_chk1 v3), (k0_dev16 v3) < nD := fun v3 k0_hw1 => k0_hw1.2.2.2.2.2.2.2.1
theorem k0_dev18_lt : ∀ (v3 : BitVec 32) (k0_hw1 : k0_chk1 v3), (k0_dev18 v3) < nD := fun v3 k0_hw1 => k0_hw1.2.2.2.2.2.2.2.2.1
theorem k0_dev20_lt : ∀ (v3 : BitVec 32) (k0_hw1 : k0_chk1 v3), (k0_dev20 v3) < nD := fun v3 k0_hw1 => k0_hw1.2.2.2.2.2.2.2.2.2.1
theorem k0_dev22_lt : ∀ (v3 : BitVec 32) (k0_hw1 : k0_chk1 v3), (k0_dev22 v3) < nD := fun v3 k0_hw1 => k0_hw1.2.2.2.2.2.2.2.2.2.2.1
theorem k0_dev24_lt : ∀ (v3 : BitVec 32) (k0_hw1 : k0_chk1 v3), (k0_dev24 v3) < nD := fun v3 k0_hw1 => k0_hw1.2.2.2.2.2.2.2.2.2.2.2.1
theorem k0_dev26_lt : ∀ (v3 : BitVec 32) (k0_hw1 : k0_chk1 v3), (k0_dev26 v3) < nD := fun v3 k0_hw1 => k0_hw1.2.2.2.2.2.2.2.2.2.2.2.2.1
theorem k0_dev28_lt : ∀ (v3 : BitVec 32) (k0_hw1 : k0_chk1 v3), (k0_dev28 v3) < nD := fun v3 k0_hw1 => k0_hw1.2.2.2.2.2.2.2.2.2.2.2.2.2.1
theorem k0_dev30_lt : ∀ (v3 : BitVec 32) (k0_hw1 : k0_chk1 v3), (k0_dev30 v3) < nD := fun v3 k0_hw1 => k0_hw1.2.2.2.2.2.2.2.2.2.2.2.2.2.2.1
theorem k0_dev32_lt : ∀ (v3 : BitVec 32) (k0_hw1 : k0_chk1 v3), (k0_dev32 v3) < nD := fun v3 k0_hw1 => k0_hw1.2.2.2.2.2.2.2.2.2.2.2.2.2.2.2

def k0_off28 (v782 : BitVec 32) : Fin 2 → Nat :=
  let c128_i32_784 : BitVec 32 := 128#32
  let v788 : BitVec 32 := Scalar.muli v782 c128_i32_784
  let v789 : Index := Scalar.indexCast v788
  let c0_785 : Index := 0#32
  ![v789.toNat, 0]

def k0_chk30 (v782 : BitVec 32) : Prop :=
  (∀ a, (k0_off28 v782) a + S128x256.size a ≤ S4096x256.size a)
theorem k0_off28_inb : ∀ (v782 : BitVec 32) (k0_hw30 : k0_chk30 v782), ∀ a, (k0_off28 v782) a + S128x256.size a ≤ S4096x256.size a := fun v782 k0_hw30 => k0_hw30

def k0_off29 (v791 : BitVec 32) : Fin 2 → Nat :=
  let c128_i32_792 : BitVec 32 := 128#32
  let v797 : BitVec 32 := Scalar.muli v791 c128_i32_792
  let v798 : Index := Scalar.indexCast v797
  let c0_793 : Index := 0#32
  ![v798.toNat, 0]

def k0_chk31 (v791 : BitVec 32) : Prop :=
  (∀ a, (k0_off29 v791) a + S128x256.size a ≤ S4096x256.size a)
theorem k0_off29_inb : ∀ (v791 : BitVec 32) (k0_hw31 : k0_chk31 v791), ∀ a, (k0_off29 v791) a + S128x256.size a ≤ S4096x256.size a := fun v791 k0_hw31 => k0_hw31

def k0_dev33 (v4 : BitVec 32) : Nat :=
  let c0_i32_818 : BitVec 32 := 0#32
  let c1_i32_817 : BitVec 32 := 1#32
  let v816 : BitVec 32 := Scalar.muli v4 c1_i32_817
  let v817 : BitVec 32 := Scalar.addi c0_i32_818 v816
  v817.toNat

def k0_chk2 (v4 : BitVec 32) : Prop :=
  ((k0_dev2 v4) < nD) ∧
  ((k0_dev3 v4) < nD) ∧
  ((k0_dev5 v4) < nD) ∧
  ((k0_dev7 v4) < nD) ∧
  ((k0_dev9 v4) < nD) ∧
  ((k0_dev11 v4) < nD) ∧
  ((k0_dev13 v4) < nD) ∧
  ((k0_dev15 v4) < nD) ∧
  ((k0_dev17 v4) < nD) ∧
  ((k0_dev19 v4) < nD) ∧
  ((k0_dev21 v4) < nD) ∧
  ((k0_dev23 v4) < nD) ∧
  ((k0_dev25 v4) < nD) ∧
  ((k0_dev27 v4) < nD) ∧
  ((k0_dev29 v4) < nD) ∧
  ((k0_dev31 v4) < nD) ∧
  ((k0_dev33 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4), (k0_dev3 v4) < nD := fun v4 k0_hw2 => k0_hw2.2.1
theorem k0_dev5_lt : ∀ (v4 : BitVec 32) (k0_hw2 : k0_chk2 v4), (k0_dev5 v4) < nD := fun v4 k0_hw2 => k0_hw2.2.2.1
theorem k0_dev7_lt : ∀ (v4 : BitVec 32) (k0_hw2 : k0_chk2 v4), (k0_dev7 v4) < nD := fun v4 k0_hw2 => k0_hw2.2.2.2.1
theorem k0_dev9_lt : ∀ (v4 : BitVec 32) (k0_hw2 : k0_chk2 v4), (k0_dev9 v4) < nD := fun v4 k0_hw2 => k0_hw2.2.2.2.2.1
theorem k0_dev11_lt : ∀ (v4 : BitVec 32) (k0_hw2 : k0_chk2 v4), (k0_dev11 v4) < nD := fun v4 k0_hw2 => k0_hw2.2.2.2.2.2.1
theorem k0_dev13_lt : ∀ (v4 : BitVec 32) (k0_hw2 : k0_chk2 v4), (k0_dev13 v4) < nD := fun v4 k0_hw2 => k0_hw2.2.2.2.2.2.2.1
theorem k0_dev15_lt : ∀ (v4 : BitVec 32) (k0_hw2 : k0_chk2 v4), (k0_dev15 v4) < nD := fun v4 k0_hw2 => k0_hw2.2.2.2.2.2.2.2.1
theorem k0_dev17_lt : ∀ (v4 : BitVec 32) (k0_hw2 : k0_chk2 v4), (k0_dev17 v4) < nD := fun v4 k0_hw2 => k0_hw2.2.2.2.2.2.2.2.2.1
theorem k0_dev19_lt : ∀ (v4 : BitVec 32) (k0_hw2 : k0_chk2 v4), (k0_dev19 v4) < nD := fun v4 k0_hw2 => k0_hw2.2.2.2.2.2.2.2.2.2.1
theorem k0_dev21_lt : ∀ (v4 : BitVec 32) (k0_hw2 : k0_chk2 v4), (k0_dev21 v4) < nD := fun v4 k0_hw2 => k0_hw2.2.2.2.2.2.2.2.2.2.2.1
theorem k0_dev23_lt : ∀ (v4 : BitVec 32) (k0_hw2 : k0_chk2 v4), (k0_dev23 v4) < nD := fun v4 k0_hw2 => k0_hw2.2.2.2.2.2.2.2.2.2.2.2.1
theorem k0_dev25_lt : ∀ (v4 : BitVec 32) (k0_hw2 : k0_chk2 v4), (k0_dev25 v4) < nD := fun v4 k0_hw2 => k0_hw2.2.2.2.2.2.2.2.2.2.2.2.2.1
theorem k0_dev27_lt : ∀ (v4 : BitVec 32) (k0_hw2 : k0_chk2 v4), (k0_dev27 v4) < nD := fun v4 k0_hw2 => k0_hw2.2.2.2.2.2.2.2.2.2.2.2.2.2.1
theorem k0_dev29_lt : ∀ (v4 : BitVec 32) (k0_hw2 : k0_chk2 v4), (k0_dev29 v4) < nD := fun v4 k0_hw2 => k0_hw2.2.2.2.2.2.2.2.2.2.2.2.2.2.2.1
theorem k0_dev31_lt : ∀ (v4 : BitVec 32) (k0_hw2 : k0_chk2 v4), (k0_dev31 v4) < nD := fun v4 k0_hw2 => k0_hw2.2.2.2.2.2.2.2.2.2.2.2.2.2.2.2.1
theorem k0_dev33_lt : ∀ (v4 : BitVec 32) (k0_hw2 : k0_chk2 v4), (k0_dev33 v4) < nD := fun v4 k0_hw2 => k0_hw2.2.2.2.2.2.2.2.2.2.2.2.2.2.2.2.2

def k0_off30 (v826 : BitVec 32) : Fin 2 → Nat :=
  let c128_i32_829 : BitVec 32 := 128#32
  let v832 : BitVec 32 := Scalar.muli v826 c128_i32_829
  let v833 : Index := Scalar.indexCast v832
  let c0_830 : Index := 0#32
  ![v833.toNat, 0]

def k0_chk32 (v826 : BitVec 32) : Prop :=
  (∀ a, (k0_off30 v826) a + S128x256.size a ≤ S4096x256.size a)
theorem k0_off30_inb : ∀ (v826 : BitVec 32) (k0_hw32 : k0_chk32 v826), ∀ a, (k0_off30 v826) a + S128x256.size a ≤ S4096x256.size a := fun v826 k0_hw32 => k0_hw32

def k0_off31 (v835 : BitVec 32) : Fin 2 → Nat :=
  let c128_i32_837 : BitVec 32 := 128#32
  let v841 : BitVec 32 := Scalar.muli v835 c128_i32_837
  let v842 : Index := Scalar.indexCast v841
  let c0_838 : Index := 0#32
  ![v842.toNat, 0]

def k0_chk33 (v835 : BitVec 32) : Prop :=
  (∀ a, (k0_off31 v835) a + S128x256.size a ≤ S4096x256.size a)
theorem k0_off31_inb : ∀ (v835 : BitVec 32) (k0_hw33 : k0_chk33 v835), ∀ a, (k0_off31 v835) a + S128x256.size a ≤ S4096x256.size a := fun v835 k0_hw33 => k0_hw33

def k0_off32 (v852 : BitVec 32) : Fin 2 → Nat :=
  let c128_i32_855 : BitVec 32 := 128#32
  let v858 : BitVec 32 := Scalar.muli v852 c128_i32_855
  let v859 : Index := Scalar.indexCast v858
  let c0_856 : Index := 0#32
  ![v859.toNat, 0]

def k0_chk34 (v852 : BitVec 32) : Prop :=
  (∀ a, (k0_off32 v852) a + S128x256.size a ≤ S4096x256.size a)
theorem k0_off32_inb : ∀ (v852 : BitVec 32) (k0_hw34 : k0_chk34 v852), ∀ a, (k0_off32 v852) a + S128x256.size a ≤ S4096x256.size a := fun v852 k0_hw34 => k0_hw34

def k0_off33 (v861 : BitVec 32) : Fin 2 → Nat :=
  let c128_i32_864 : BitVec 32 := 128#32
  let v867 : BitVec 32 := Scalar.muli v861 c128_i32_864
  let v868 : Index := Scalar.indexCast v867
  let c0_865 : Index := 0#32
  ![v868.toNat, 0]

def k0_chk35 (v861 : BitVec 32) : Prop :=
  (∀ a, (k0_off33 v861) a + S128x256.size a ≤ S4096x256.size a)
theorem k0_off33_inb : ∀ (v861 : BitVec 32) (k0_hw35 : k0_chk35 v861), ∀ a, (k0_off33 v861) a + S128x256.size a ≤ S4096x256.size a := fun v861 k0_hw35 => k0_hw35

def k0_dev34 (d0 : Dev nD) : Nat :=
  let c0_i32_1155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1148 : BitVec 32 := 1#32
  let v1063 : BitVec 32 := Scalar.xori v2 c1_i32_1148
  let c1_i32_1154 : BitVec 32 := 1#32
  let v1068 : BitVec 32 := Scalar.muli v1063 c1_i32_1154
  let v1069 : BitVec 32 := Scalar.addi c0_i32_1155 v1068
  v1069.toNat
def k0_dev35 (d0 : Dev nD) : Nat :=
  let c0_i32_1182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1175 : BitVec 32 := 2#32
  let v1093 : BitVec 32 := Scalar.xori v2 c2_i32_1175
  let c1_i32_1181 : BitVec 32 := 1#32
  let v1098 : BitVec 32 := Scalar.muli v1093 c1_i32_1181
  let v1099 : BitVec 32 := Scalar.addi c0_i32_1182 v1098
  v1099.toNat
def k0_dev36 (d0 : Dev nD) : Nat :=
  let c0_i32_1209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1202 : BitVec 32 := 4#32
  let v1123 : BitVec 32 := Scalar.xori v2 c4_i32_1202
  let c1_i32_1208 : BitVec 32 := 1#32
  let v1128 : BitVec 32 := Scalar.muli v1123 c1_i32_1208
  let v1129 : BitVec 32 := Scalar.addi c0_i32_1209 v1128
  v1129.toNat
def k0_dev37 (d0 : Dev nD) : Nat :=
  let c0_i32_1236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1229 : BitVec 32 := 8#32
  let v1153 : BitVec 32 := Scalar.xori v2 c8_i32_1229
  let c1_i32_1235 : BitVec 32 := 1#32
  let v1158 : BitVec 32 := Scalar.muli v1153 c1_i32_1235
  let v1159 : BitVec 32 := Scalar.addi c0_i32_1236 v1158
  v1159.toNat
def k0_dev38 (d0 : Dev nD) : Nat :=
  let c0_i32_1263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1256 : BitVec 32 := 16#32
  let v1183 : BitVec 32 := Scalar.xori v2 c16_i32_1256
  let c1_i32_1262 : BitVec 32 := 1#32
  let v1188 : BitVec 32 := Scalar.muli v1183 c1_i32_1262
  let v1189 : BitVec 32 := Scalar.addi c0_i32_1263 v1188
  v1189.toNat
abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 10
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S4096x8192, .f32⟩
  | .local _ .vmem, ⟨0, _⟩ => ⟨S4096x8192, .f32⟩
  | .local _ .vmem, ⟨1, _⟩ => ⟨S1x1, .f32⟩
  | .local _ .vmem, ⟨2, _⟩ => ⟨S4096x8192, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Cycle.lean ====
/-
  The arithmetic of the kernel's ring: 32 devices in the cycle the host code tabulates, numbered by their places on it.
  Nothing here mentions a program or a float; every fact is about `Fin 32` and is settled by evaluation.
-/
module

public import Mathlib.Data.Fin.Basic
public import Mathlib.Data.Fintype.Basic
public import Mathlib.Data.Fin.VecNotation
public import Mathlib.Order.Interval.Finset.Nat
public import Mathlib.Logic.Equiv.Defs
public import Mathlib.Tactic.FinCases

@[expose] public section

namespace Cert.Ring

/-- The device at each place of the cycle. -/
def cyc : Fin 32 → Fin 32 :=
  ![0, 3, 4, 7, 15, 12, 11, 8, 16, 19, 20, 23, 31, 28, 27, 24, 25, 26, 29, 30, 22, 21, 18, 17, 9, 10, 13, 14, 6, 5, 2, 1]

/-- The place of each device on the cycle. -/
def pos : Fin 32 → Fin 32 :=
  ![0, 31, 30, 1, 2, 29, 28, 3, 7, 24, 25, 6, 5, 26, 27, 4, 8, 23, 22, 9, 10, 21, 20, 11, 15, 16, 17, 14, 13, 18, 19, 12]

/-- The device `k` places to the left of `c`: whose block of `x` the slot `k` of `c`'s buffer receives. -/
def idOf (c : Fin 32) (k : ℕ) : Fin 32 := cyc (pos c - Fin.ofNat 32 k)

/-- The number of hops of each direction (`true` is to the right). -/
def hops (d : Bool) : ℕ := if d then 16 else 15

/-- The slot a block is in after `i` hops in direction `d`. -/
def sl (d : Bool) (i : ℕ) : ℕ := if d then i else (32 - i) % 32

/-- The neighbour of `c` in direction `d`. -/
def peer (d : Bool) (c : Fin 32) : Fin 32 := if d then idOf c 31 else idOf c 1

/-- The device that exchanges its maximum with `c` in round `k`: the number differs in bit `k`. -/
def pt (c : Fin 32) (k : ℕ) : Fin 32 := ⟨(c.val ^^^ 2 ^ k) % 32, Nat.mod_lt _ (by decide)⟩

/-- The slot in which the device that exchanges with `o` in round `k` receives `o`'s block. -/
def slotAt (o : Fin 32) (k : ℕ) : ℕ := (pos (pt o k) - pos o).val

/-- Device `o`'s block, travelling in direction `d` with `i` hops behind it, has yet to reach, on hop `i + 1` or
    a later one, the device that exchanges with `o` in round `k`. -/
def travels (d : Bool) (i : ℕ) (o : Fin 32) (k : ℕ) : Prop :=
  if d then i < slotAt o k ∧ slotAt o k ≤ 16 else 16 < slotAt o k ∧ i < 32 - slotAt o k

instance (d : Bool) (i : ℕ) (o : Fin 32) (k : ℕ) : Decidable (travels d i o k) := by unfold travels; infer_instance

theorem idOf_zero : ∀ c, idOf c 0 = c := by decide +kernel

theorem peer_back : ∀ d c, peer d (peer (!d) c) = c := by decide +kernel

/-- The neighbours in one direction, as a permutation of the devices. -/
def peerEquiv (d : Bool) : Fin 32 ≃ Fin 32 where
  toFun := peer d
  invFun := peer (!d)
  left_inv c := by have := peer_back (!d) c; rwa [Bool.not_not] at this
  right_inv c := peer_back d c

theorem pt_pt_fin : ∀ (k : Fin 5) (c : Fin 32), pt (pt c k.val) k.val = c := by decide +kernel
theorem pt_pt {k : ℕ} (hk : k < 5) (c : Fin 32) : pt (pt c k) k = c := pt_pt_fin ⟨k, hk⟩ c

/-- The round-`k` partners, as a permutation of the devices. -/
def ptEquiv (k : ℕ) (hk : k < 5) : Fin 32 ≃ Fin 32 := ⟨fun c => pt c k, fun c => pt c k, pt_pt hk, pt_pt hk⟩

theorem sl_lt {d : Bool} {i : ℕ} (h : i ≤ hops d) : sl d i < 32 := by
  unfold sl; unfold hops at h; cases d <;> simp_all <;> omega

/-- A block does not change hands' owner: what `c` holds after `i` hops is what its neighbour holds after one more. -/
theorem idOf_peer_fin : ∀ (d : Bool) (i : Fin 16) (c : Fin 32), i.val < hops d →
    idOf (peer d c) (sl d (i.val + 1)) = idOf c (sl d i.val) := by decide +kernel
theorem idOf_peer {d : Bool} {i : ℕ} (h : i < hops d) (c : Fin 32) : idOf (peer d c) (sl d (i + 1)) = idOf c (sl d i) :=
  idOf_peer_fin d ⟨i, lt_of_lt_of_le h (by unfold hops; split <;> decide)⟩ c h

/-- Every right starts travelling in exactly one direction. -/
theorem travels_start_fin : ∀ (c : Fin 32) (k : Fin 5), travels false 0 c k.val ↔ ¬ travels true 0 c k.val := by decide +kernel
theorem travels_start (c : Fin 32) {k : ℕ} (hk : k < 5) : travels false 0 c k ↔ ¬ travels true 0 c k := travels_start_fin c ⟨k, hk⟩

/-- On hop `i + 1` a travelling right either has arrived or travels on. -/
theorem travels_step_fin : ∀ (d : Bool) (i : Fin 16) (e : Fin 32) (k : Fin 5), i.val < hops d →
    (travels d i.val (idOf e (sl d (i.val + 1))) k.val ↔
      (pt (idOf e (sl d (i.val + 1))) k.val = e ∨ travels d (i.val + 1) (idOf e (sl d (i.val + 1))) k.val)) := by decide +kernel
theorem travels_excl_fin : ∀ (d : Bool) (i : Fin 16) (e : Fin 32) (k : Fin 5), i.val < hops d →
    pt (idOf e (sl d (i.val + 1))) k.val = e → ¬ travels d (i.val + 1) (idOf e (sl d (i.val + 1))) k.val := by decide +kernel
theorem travels_step {d : Bool} {i : ℕ} (h : i < hops d) (e : Fin 32) {k : ℕ} (hk : k < 5) :
    travels d i (idOf e (sl d (i + 1))) k ↔
      (pt (idOf e (sl d (i + 1))) k = e ∨ travels d (i + 1) (idOf e (sl d (i + 1))) k) :=
  travels_step_fin d ⟨i, lt_of_lt_of_le h (by unfold hops; split <;> decide)⟩ e ⟨k, hk⟩ h
theorem travels_excl {d : Bool} {i : ℕ} (h : i < hops d) (e : Fin 32) {k : ℕ} (hk : k < 5)
    (hp : pt (idOf e (sl d (i + 1))) k = e) : ¬ travels d (i + 1) (idOf e (sl d (i + 1))) k :=
  travels_excl_fin d ⟨i, lt_of_lt_of_le h (by unfold hops; split <;> decide)⟩ e ⟨k, hk⟩ h hp

/-- Every partner's block reaches `c` on some hop. -/
theorem partner_slot_fin : ∀ (c : Fin 32) (k : Fin 5), ∃ d : Bool, ∃ i : Fin 16, i.val < hops d ∧ idOf c (sl d (i.val + 1)) = pt c k.val := by
  decide +kernel
theorem partner_slot (c : Fin 32) {k : ℕ} (hk : k < 5) : ∃ d : Bool, ∃ i : ℕ, i < hops d ∧ idOf c (sl d (i + 1)) = pt c k := by
  obtain ⟨d, i, h⟩ := partner_slot_fin c ⟨k, hk⟩; exact ⟨d, i.val, h⟩

/-- Every slot but the first is one that some hop fills. -/
theorem slot_cases {s : ℕ} (h : s < 32) (h0 : s ≠ 0) : ∃ d : Bool, ∃ i : ℕ, i < hops d ∧ sl d (i + 1) = s := by
  by_cases h16 : s ≤ 16
  · exact ⟨true, s - 1, by simp only [hops]; simp; omega, by simp only [sl]; simp; omega⟩
  · exact ⟨false, 31 - s, by simp only [hops]; simp; omega, by simp only [sl]; simp; omega⟩

/-- Every device's block is in some slot. -/
theorem idOf_surj : ∀ (c o : Fin 32), ∃ s : Fin 32, idOf c s.val = o := by decide +kernel
theorem idOf_inj_fin : ∀ (c s t : Fin 32), idOf c s.val = idOf c t.val → s = t := by decide +kernel

end Cert.Ring
-- ==== Proof.KernelIdealProto.lean ====
/-
  The protocol of the kernel: its buffers and views, its semaphores named by their roles, the contents each landing hands
  over, and the schedule of payloads.  The devices are numbered by their places on the cycle of `Proof.Cycle`.
-/
module

public import proofs.«01_k».proof.Proof.Cycle
public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.Regions
public import Idealize.ShloMosaic.Lib.Pipeline.Kit
public import Idealize.ShloMosaic.Lib.Pipeline.RegionTalk
public import Idealize.ShloMosaic.Lib.Pipeline.Value
public import Idealize.ShloMosaic.Lib.ValueLayout
public import Idealize.ShloMosaic.Lib.Rounds
public import Idealize.ShloMosaic.Lib.StableHlo
public import Idealize.ShloMosaic.Lib.Tactic

@[expose] public section
noncomputable section

namespace Cert.KernelIdeal.Talk

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The ghost state: the staging library's and the protocol's. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Buffers and views -/

abbrev idsM : Memref sig .tc .smem S32 .i32 := Memref.whole cc0_stg0_0
abbrev xM : Memref sig .tc .vmem S128x4096 .bf16 := Memref.whole cc0_stg1_0
abbrev wM : Memref sig .tc .vmem S4096x256 .bf16 := Memref.whole cc0_stg2_0
abbrev oM : Memref sig .tc .vmem S4096x256 .f32 := Memref.whole cc0_stg3_0
abbrev commM : Memref sig .tc .vmem S32x128x4096 .bf16 := Memref.whole cc0_scratch0
abbrev hbM : Memref sig .tc .vmem S1x1 .f32 := Memref.whole cc0_scratch5
abbrev hiM : Memref sig .tc .vmem S5x1x1 .f32 := Memref.whole cc0_scratch6

theorem slot_inb (k : ℕ) : ∀ a, (![k % 32, 0, 0] : Fin 3 → ℕ) a + S1x128x4096.size a ≤ S32x128x4096.size a := by
  have : k % 32 < 32 := Nat.mod_lt _ (by decide)
  intro a; fin_cases a <;> simp [S1x128x4096, S32x128x4096] <;> omega

theorem hc_inb (k : ℕ) : ∀ a, (![k % 5, 0, 0] : Fin 3 → ℕ) a + S1x1x1.size a ≤ S5x1x1.size a := by
  have : k % 5 < 5 := Nat.mod_lt _ (by decide)
  intro a; fin_cases a <;> simp [S1x1x1, S5x1x1] <;> omega

/-- The rectangle of slot `k` of the buffer of blocks. -/
abbrev slotR (k : ℕ) : Rect S32x128x4096 := Rect.unit (s := S32x128x4096) ![k % 32, 0, 0] S1x128x4096.size (slot_inb k)
/-- Slot `k` of the buffer of blocks. -/
abbrev slotM (k : ℕ) : Memref sig .tc .vmem S128x4096 .bf16 :=
  (commM.slice (slotR k) (fun _ => rfl)).squeeze S128x4096 squeezes_S1x128x4096_S128x4096
/-- The rectangle of cell `k` of the buffer of received maxima. -/
abbrev hcR (k : ℕ) : Rect S5x1x1 := Rect.unit (s := S5x1x1) ![k % 5, 0, 0] S1x1x1.size (hc_inb k)
/-- Cell `k` of the buffer of received maxima. -/
abbrev hcM (k : ℕ) : Memref sig .tc .vmem S1x1 .f32 :=
  (hiM.slice (hcR k) (fun _ => rfl)).squeeze S1x1 squeezes_S1x1x1_S1x1

/-- The DMA semaphore of number `n`. -/
abbrev dsem (n : ℕ) : DmaSem sig := ⟨n % 76, Nat.mod_lt _ (by decide)⟩
abbrev barS : Sem sig := sig.barrier 0 rfl

/-- The first of the semaphores that count a direction's completed sends; its arrivals. -/
abbrev sndBase (d : Bool) : ℕ := if d then 4 else 36
abbrev rcvBase (d : Bool) : ℕ := if d then 20 else 51
abbrev sndS (d : Bool) (i : ℕ) : DmaSem sig := dsem (sndBase d + i)
abbrev rcvS (d : Bool) (i : ℕ) : DmaSem sig := dsem (rcvBase d + i)
abbrev hsS (k : ℕ) : DmaSem sig := dsem (66 + k)
abbrev hrS (k : ℕ) : DmaSem sig := dsem (71 + k)

/-! ## The instructions of the ring -/

/-- What the gathering phase is made of: an outgoing copy, the wait for an arrival, the wait for a completed send, and the
    product of one slot with this device's columns. -/
inductive Ins where
  | send (d : Bool) (i : ℕ)
  | recv (d : Bool) (i : ℕ)
  | ack (d : Bool) (i : ℕ)
  | gemm (s : ℕ)

theorem commM_whole : (commM : Memref sig .tc .vmem S32x128x4096 .bf16).IsWhole := Memref.isWhole_whole cc0_scratch0

theorem slot_words : ∀ k : Fin 32, (Rect.unit (s := S32x128x4096) ![k.val, 0, 0] S1x128x4096.size
    (by have := slot_inb k.val; rwa [Nat.mod_eq_of_lt k.isLt] at this)).WholeWords (EltTy.packing .bf16) := by decide

theorem slot_wordExact (k : ℕ) : (slotM k).view.WordExact :=
  (commM_whole.wordExact_slice rfl _ (slot_words ⟨k % 32, Nat.mod_lt _ (by decide)⟩)).reshape _ _

theorem ids_inb (k : ℕ) : ∀ a, (![k % 32] : Fin 1 → ℕ) a + S1.size a ≤ S32.size a := by
  have : k % 32 < 32 := Nat.mod_lt _ (by decide)
  intro a; fin_cases a; simp [S1, S32]; omega

abbrev TProg (F : FTy → Type) [FloatOps F] (α : Type) := Prog (TpuEff nD τ sig (Elt F) Λ₀ .tc) α

/-- The copy of hop `i` in direction `d`, to the device `p`. -/
def sendP (p : Dev nD) (d : Bool) (i : ℕ) : TProg F PUnit :=
  Prog.lift (.enqueueDma (slotM (sl d i)) (.remote (Dev.tc p) (slotM (sl d (i + 1))) (.dma (sndS d i))) (.dma (rcvS d i))
    (slot_wordExact _) (slot_wordExact _) ⟨⟨rfl, Or.inl rfl⟩, trivial⟩)

/-- The wait for the arrival of hop `i`. -/
def recvP (d : Bool) (i : ℕ) : TProg F PUnit :=
  Prog.lift (.waitDma2 (rcvS d i) (slotM (sl d i)) (slotM (sl d (i + 1))) (slot_wordExact _) (slot_wordExact _))

/-- The wait for the completion of this device's own hop `i`. -/
def ackP (d : Bool) (i : ℕ) : TProg F PUnit :=
  Prog.lift (.waitDma2 (sndS d i) (slotM (sl d (i + 1))) (slotM (sl d i)) (slot_wordExact _) (slot_wordExact _))

/-- The product of slot `s`, stored at the rows of the device whose block it is. -/
def gemmP (s : ℕ) : TProg F PUnit := do
  let v : Elt F .i32 ← smemLoad idsM (Rect.unit (s := S32) ![s % 32] S1.size (ids_inb s)) numel1_S1 rfl
  have hw : k0_chk3 v := (← Prog.lift (TpuEff.assume (k0_chk3 v) (k0_chk3.dec v))).down
  let x : Vec F S1x128x4096 .bf16 ← Prog.lift (.load commM (slotR s).toLoadRect (View.loadsAt_vmem h_S1x128x4096))
  let w : Vec F S4096x256 .bf16 ← Prog.lift (.load wM (Rect.unit (s := S4096x256) ![0, 0] S4096x256.size inb_S4096x256_S4096x256_0_0).toLoadRect (View.loadsAt_vmem h_S4096x256))
  let _ : Vec F S128x256 .f32 ← Prog.lift (.load oM (Rect.unit (s := S4096x256) (k0_off1 v) S128x256.size (k0_off1_inb v hw)).toLoadRect (View.loadsAt_vmem h_S128x256))
  Prog.lift (.store oM (Rect.unit (s := S4096x256) (k0_off1 v) S128x256.size (k0_off1_inb v hw)) (k0_pay3 x w) Finset.univ (View.stores_vmem_bits_univ h_S128x256 rfl) (.inl rfl))

/-- One instruction; `p` is where the copies of each direction go. -/
def prog (p : Bool → Dev nD) : Ins → TProg F PUnit
  | .send d i => sendP (p d) d i
  | .recv d i => recvP d i
  | .ack d i => ackP d i
  | .gemm s => gemmP s

/-- A straight line of instructions. -/
def run (p : Bool → Dev nD) : List Ins → TProg F PUnit
  | [] => pure ⟨⟩
  | i :: l => do prog p i; run p l

end Cert.KernelIdeal.Talk
-- ==== Proof.KernelIdealSched.lean ====
/-
  The contents, the payload schedule and the levels of the protocol.
-/
module

public import proofs.«01_k».proof.Proof.KernelIdealProto

@[expose] public section
noncomputable section

namespace Cert.KernelIdeal.Talk

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## The semaphores by their roles -/

/-- The role of a semaphore: the barrier; the completion and the arrival of hop `i` in direction `d`; the completion and the
    arrival of round `k` of the exchange of maxima. -/
inductive Ch where
  | bar
  | snd (d : Bool) (i : ℕ)
  | rcv (d : Bool) (i : ℕ)
  | hs (k : ℕ)
  | hr (k : ℕ)
  | other
  deriving DecidableEq

/-- The semaphore of a role. -/
def semOf : Ch → SemLoc sig
  | .bar => .reg barS
  | .snd d i => .dma (sndS d i)
  | .rcv d i => .dma (rcvS d i)
  | .hs k => .dma (hsS k)
  | .hr k => .dma (hrS k)
  | .other => .dma (dsem 0)

/-- The role of a DMA semaphore, by its number. -/
def chDma (n : ℕ) : Ch :=
  if n < 4 then .other else if n < 20 then .snd true (n - 4) else if n < 36 then .rcv true (n - 20)
  else if n < 51 then .snd false (n - 36) else if n < 66 then .rcv false (n - 51)
  else if n < 71 then .hs (n - 66) else .hr (n - 71)

/-- The role of a semaphore. -/
def chOf : SemLoc sig → Ch
  | .reg s => if s = barS then .bar else .other
  | .dma n => chDma n.val

/-- The roles that are played. -/
def Ch.ok : Ch → Prop
  | .bar => True
  | .snd d i => i < hops d
  | .rcv d i => i < hops d
  | .hs k => k < 5
  | .hr k => k < 5
  | .other => False

theorem chOf_semOf {ch : Ch} (h : ch.ok) : chOf (semOf ch) = ch := by
  cases ch with
  | bar => rfl
  | other => exact absurd h id
  | hs k =>
    have h : k < 5 := h
    have e : (66 + k) % 76 = 66 + k := Nat.mod_eq_of_lt (by omega)
    show chDma ((66 + k) % 76) = _
    rw [e]; unfold chDma
    rw [if_neg (by omega), if_neg (by omega), if_neg (by omega), if_neg (by omega), if_neg (by omega), if_pos (by omega),
      Nat.add_sub_cancel_left]
  | hr k =>
    have h : k < 5 := h
    have e : (71 + k) % 76 = 71 + k := Nat.mod_eq_of_lt (by omega)
    show chDma ((71 + k) % 76) = _
    rw [e]; unfold chDma
    rw [if_neg (by omega), if_neg (by omega), if_neg (by omega), if_neg (by omega), if_neg (by omega), if_neg (by omega),
      Nat.add_sub_cancel_left]
  | snd d i =>
    cases d
    · have h : i < 15 := h
      have e : (36 + i) % 76 = 36 + i := Nat.mod_eq_of_lt (by omega)
      show chDma ((36 + i) % 76) = _
      rw [e]; unfold chDma
      rw [if_neg (by omega), if_neg (by omega), if_neg (by omega), if_pos (by omega), Nat.add_sub_cancel_left]
    · have h : i < 16 := h
      have e : (4 + i) % 76 = 4 + i := Nat.mod_eq_of_lt (by omega)
      show chDma ((4 + i) % 76) = _
      rw [e]; unfold chDma
      rw [if_neg (by omega), if_pos (by omega), Nat.add_sub_cancel_left]
  | rcv d i =>
    cases d
    · have h : i < 15 := h
      have e : (51 + i) % 76 = 51 + i := Nat.mod_eq_of_lt (by omega)
      show chDma ((51 + i) % 76) = _
      rw [e]; unfold chDma
      rw [if_neg (by omega), if_neg (by omega), if_neg (by omega), if_neg (by omega), if_pos (by omega), Nat.add_sub_cancel_left]
    · have h : i < 16 := h
      have e : (20 + i) % 76 = 20 + i := Nat.mod_eq_of_lt (by omega)
      show chDma ((20 + i) % 76) = _
      rw [e]; unfold chDma
      rw [if_neg (by omega), if_neg (by omega), if_pos (by omega), Nat.add_sub_cancel_left]

/-- A role's semaphore on a device. -/
abbrev cell (ch : Ch) (c : Dev nD) : GSem nD τ sig := ((c : Thread nD τ), semOf ch)

/-! ## Contents -/

section Contents

variable (X : Dev nD → Vec F S128x4096 .bf16) (Wt : Dev nD → Vec F S4096x256 .bf16)

/-- The buffer of blocks of device `c` once every block has arrived: slot `k` holds the block of the device `k` places to
    the left. -/
def commF (c : Dev nD) : (cc0_scratch0 : Ref sig .tc).ty.Contents (Elt F) :=
  fun (i : S32x128x4096.Idx) => k0_pay2 (X (idOf c (i 0).val)) (ix3 (⟨0, by decide⟩ : Fin 1) (i 1) (i 2))

/-- Device `c`'s product, block of rows by block of rows. -/
def outF (c : Dev nD) : (cc0_stg3_0 : Ref sig .tc).ty.Contents (Elt F) :=
  fun (i : S4096x256.Idx) => k0_pay3 (k0_pay2 (X ⟨(i 0).val / 128, Nat.div_lt_of_lt_mul (i 0).isLt⟩)) (Wt c)
    (ix2 (⟨(i 0).val % 128, Nat.mod_lt _ (by decide)⟩ : Fin 128) (i 1))

/-- The maximum device `c` holds before round `k` of the exchange. -/
def cur : ℕ → Dev nD → F .f32
  | 0, c => k0_pay36 (outF X Wt c)
  | k + 1, c => k0_pay38 (cur k c) (fun _ => cur k (pt c k))

/-- Device `c`'s result. -/
def finF (c : Dev nD) : (cc0_stg3_0 : Ref sig .tc).ty.Contents (Elt F) :=
  k0_pay1 (k0_pay46 (cur X Wt 4 c) (fun _ => cur X Wt 4 (pt c 4))) (k0_pay47 (cur X Wt 4 c) (fun _ => cur X Wt 4 (pt c 4)) (outF X Wt c))

end Contents

/-! ## Assertions -/

/-- Slot `k` of device `c`'s buffer of blocks, at the share `q` and the contents `f`. -/
abbrev slotPts (c : Dev nD) (k : ℕ) (q : PosShare TreeShare) (f : (cc0_scratch0 : Ref sig .tc).ty.Contents (Elt F)) : sProp 𝕄 :=
  (slotM k).view.loc (c : Thread nD τ) ↦[(slotM k).view.set]{q} f
/-- Cell `k` of device `c`'s buffer of received maxima. -/
abbrev hcPts (c : Dev nD) (k : ℕ) (f : (cc0_scratch6 : Ref sig .tc).ty.Contents (Elt F)) : sProp 𝕄 :=
  (hcM k).view.loc (c : Thread nD τ) ↦[(hcM k).view.set]{fullShare} f
/-- Device `c`'s own maximum, as it is sent. -/
abbrev hbPts (c : Dev nD) (f : (cc0_scratch5 : Ref sig .tc).ty.Contents (Elt F)) : sProp 𝕄 :=
  (hbM : Memref sig .tc .vmem S1x1 .f32).view.loc (c : Thread nD τ) ↦[(hbM : Memref sig .tc .vmem S1x1 .f32).view.set]{fullShare} f

/-- The right to write cell `k` of device `o`'s buffer of received maxima. -/
def right (o : Dev nD) (k : ℕ) : sProp 𝕄 := iprop((∃ f, hcPts o k f) ∗ reached ER (cell (.hr k) o) 0)

/-- The rights of device `o` that travel with its block. -/
def rights (d : Bool) (i : ℕ) (o : Dev nD) : sProp 𝕄 :=
  bigSep (Finset.range 5) fun k => if travels d i o k then right o k else iprop(emp)

/-- The share of a slot that hop `i` in direction `d` reads through. -/
def shr (d : Bool) (i : ℕ) : PosShare TreeShare :=
  if i = 0 then (if d then fullShare.left else fullShare.right.left) else fullShare.left

/-- The amount of a block's copy, and of a maximum's. -/
def N : ℕ := (slotM 0).view.dmaCredit
def Nh : ℕ := (hcM 0).view.dmaCredit
theorem N_pos : 0 < N := View.dmaCredit_pos _ (by decide)
theorem Nh_pos : 0 < Nh := View.dmaCredit_pos _ (by decide)

/-! ## The schedule -/

section Sched

variable (X : Dev nD → Vec F S128x4096 .bf16) (Wt : Dev nD → Vec F S4096x256 .bf16)

/-- What the neighbour in direction `d` pays to `p`'s barrier: its slots that `p`'s copies fill, each with the fact that its
    arrival semaphore has begun. -/
def barPay (p : Dev nD) (d : Bool) : sProp 𝕄 :=
  bigSep (Finset.range (hops d)) fun i =>
    iprop((∃ f, slotPts (peer d p) (sl d (i + 1)) fullShare f) ∗ reached ER (cell (.rcv d i) (peer d p)) 0)
/-- The arrival of hop `i` at `e`: the slot with its block, and the rights that travel with the block. -/
def rcvPay (e : Dev nD) (d : Bool) (i : ℕ) : sProp 𝕄 :=
  iprop(slotPts e (sl d (i + 1)) fullShare (commF X e) ∗ rights d i (idOf e (sl d (i + 1))))
/-- A completed hop gives the share of its source back. -/
def sndPay (c : Dev nD) (d : Bool) (i : ℕ) : sProp 𝕄 := slotPts c (sl d i) (shr d i) (commF X c)
/-- A completed send of a maximum gives its source back. -/
def hsPay (c : Dev nD) (k : ℕ) : sProp 𝕄 := hbPts c (fun _ => cur X Wt k c)
/-- The arrival of the partner's maximum. -/
def hrPay (p : Dev nD) (k : ℕ) : sProp 𝕄 := hcPts p k (fun _ => cur X Wt k (pt p k))

/-- The duties of a role. -/
def chDuties : Ch → Finset Bool
  | .bar => Finset.univ
  | .other => ∅
  | _ => {true}
/-- The units of a role's duty. -/
def chAmount : Ch → ℕ
  | .bar => 1
  | .hs _ => Nh
  | .hr _ => Nh
  | _ => N
/-- What a duty of a role hands over. -/
def chPay (c : Dev nD) (b : Bool) : Ch → sProp 𝕄
  | .bar => barPay c b
  | .snd d i => sndPay X c d i
  | .rcv d i => rcvPay X c d i
  | .hs k => hsPay X Wt c k
  | .hr k => hrPay X Wt c k
  | .other => iprop(emp)

/-- One round on every cell. -/
def rd : Rounds.Schedule (GSem nD τ sig) Bool 𝕄 where
  duties g r := if r = 0 ∧ g.1.2 = .tc then chDuties (chOf g.2) else ∅
  unitless _ := False
  amount g _ _ := chAmount (chOf g.2)
  payload g _ b := chPay X Wt g.1.1 b (chOf g.2)
  amount_pos g _ _ _ := by
    unfold chAmount
    split
    · exact Nat.one_pos
    · exact Nh_pos
    · exact Nh_pos
    · exact N_pos

instance right_storable (o : Dev nD) (k : ℕ) : BI.Storable (upEmb : UEmb _ 𝕄) (right (F := F) o k) := by
  unfold right; infer_instance
instance rights_storable (d : Bool) (i : ℕ) (o : Dev nD) : BI.Storable (upEmb : UEmb _ 𝕄) (rights (F := F) d i o) := by
  unfold rights
  have : ∀ k, BI.Storable (upEmb : UEmb _ 𝕄) (if travels d i o k then right (F := F) o k else iprop(emp)) := by
    intro k; split <;> infer_instance
  infer_instance

instance rd_payload_storable (g : GSem nD τ sig) (r : ℕ) (b : Bool) :
    BI.Storable (upEmb : UEmb _ 𝕄) ((rd (F := F) X Wt).payload g r b) := by
  show BI.Storable upEmb (chPay X Wt g.1.1 b (chOf g.2))
  unfold chPay
  split
  · unfold barPay; infer_instance
  · unfold sndPay; infer_instance
  · unfold rcvPay; infer_instance
  · unfold hsPay; infer_instance
  · unfold hrPay; infer_instance
  · infer_instance

variable {ch : Ch} (h : ch.ok) (c : Dev nD)

theorem duties_cell (h : ch.ok) : (rd X Wt).duties (cell ch c) 0 = chDuties ch := by
  dsimp only [rd]; rw [chOf_semOf h]; exact if_pos ⟨rfl, rfl⟩
theorem duties_later (g : GSem nD τ sig) : ∀ r, 1 ≤ r → (rd X Wt).duties g r = ∅ := fun r hr =>
  if_neg (fun h => by have := h.1; omega)
theorem amount_cell (h : ch.ok) (r : ℕ) (b : Bool) : (rd X Wt).amount (cell ch c) r b = chAmount ch := by
  show chAmount (chOf (semOf ch)) = _; rw [chOf_semOf h]
theorem payload_cell (h : ch.ok) (r : ℕ) (b : Bool) : (rd X Wt).payload (cell ch c) r b = chPay X Wt c b ch := by
  show chPay X Wt c b (chOf (semOf ch)) = _; rw [chOf_semOf h]

theorem expect_one (h : ch.ok) (h1 : chDuties ch = {true}) : (rd X Wt).expect (cell ch c) 0 = chAmount ch := by
  unfold Schedule.expect Schedule.amountOf; rw [duties_cell X Wt c h, h1, Finset.sum_singleton, amount_cell X Wt c h]
theorem expect_bar : (rd X Wt).expect (cell .bar c) 0 = 2 := by
  unfold Schedule.expect Schedule.amountOf; rw [duties_cell X Wt c (ch := .bar) trivial]
  simp only [amount_cell X Wt c (ch := .bar) trivial, chDuties, chAmount]; rfl

theorem rest_one (h : ch.ok) (h1 : chDuties ch = {true}) :
    bigSep ((rd X Wt).duties (cell ch c) 0 \ ∅) (fun b => (rd X Wt).payload (cell ch c) 0 b) = chPay X Wt c true ch := by
  rw [Finset.sdiff_empty, duties_cell X Wt c h, h1, bigSep_singleton, payload_cell X Wt c h]
theorem rest_bar : bigSep ((rd X Wt).duties (cell .bar c) 0 \ ∅) (fun b => (rd X Wt).payload (cell .bar c) 0 b)
    = iprop(barPay (F := F) c true ∗ barPay c false) := by
  rw [Finset.sdiff_empty, duties_cell X Wt c (ch := .bar) trivial]
  simp only [payload_cell X Wt c (ch := .bar) trivial]
  rw [show chDuties .bar = insert true {false} from by decide, bigSep_insert (by decide), bigSep_singleton]
  rfl

end Sched

/-! ## What is owed, and the levels -/

/-- What device `c` still owes of direction `d` after `a` hops. -/
def oweD (d : Bool) (c : Dev nD) (a : ℕ) : CellTallies nD τ sig Unit :=
  ∑ i ∈ Finset.Ico a (hops d), tallyAt (cell (.rcv d i) (peer d c)) () N
/-- What device `c` still owes of the exchange of maxima after `k` rounds. -/
def oweH (c : Dev nD) (k : ℕ) : CellTallies nD τ sig Unit :=
  ∑ j ∈ Finset.Ico k 5, tallyAt (cell (.hr j) (pt c j)) () Nh
/-- What device `c` still owes after `a` hops to the right, `b` to the left and `k` rounds of the exchange. -/
def owe (c : Dev nD) (a b k : ℕ) : CellTallies nD τ sig Unit := oweD true c a + oweD false c b + oweH c k

def L (g : GSem nD τ sig) : Finset Unit := if g.1.2 = .tc then {()} else ∅
/-- The level of a role. -/
def chLv : Ch → ℕ
  | .bar => 1
  | .rcv _ i => 2 + i
  | .hr k => 100 + k
  | _ => 0
def lv (g : GSem nD τ sig) (_ : Unit) : ℕ := chLv (chOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell {ch : Ch} (h : ch.ok) (c : Dev nD) : lv (cell ch c) () = chLv ch := by
  show chLv (chOf (semOf ch)) = _; rw [chOf_semOf h]

theorem sum_tally_pos {ι : Type} (s : Finset ι) (g' : ι → GSem nD τ sig) (n : ℕ) (g : GSem nD τ sig) (u : Unit)
    (h : 0 < (∑ i ∈ s, tallyAt (g' i) () n : CellTallies nD τ sig Unit) g u) : ∃ i ∈ s, g = g' i := by
  rw [Finset.sum_apply, Finsupp.finset_sum_apply] at h
  obtain ⟨i, hi, hp⟩ := Finset.exists_ne_zero_of_sum_ne_zero h.ne'
  refine ⟨i, hi, ?_⟩
  rw [tallyAt_apply] at hp
  by_contra hne
  exact hp (if_neg fun hh => hne hh.1)

theorem owe_pos {c : Dev nD} {a b k : ℕ} {g : GSem nD τ sig} {u : Unit} (h : 0 < owe c a b k g u) :
    (∃ i, a ≤ i ∧ i < hops true ∧ g = cell (.rcv true i) (peer true c)) ∨ (∃ i, b ≤ i ∧ i < hops false ∧ g = cell (.rcv false i) (peer false c))
      ∨ (∃ j, k ≤ j ∧ j < 5 ∧ g = cell (.hr j) (pt c j)) := by
  unfold owe at h
  have h' : 0 < oweD true c a g u + oweD false c b g u + oweH c k g u := h
  rcases Nat.eq_zero_or_pos (oweD true c a g u) with h1 | h1
  · rcases Nat.eq_zero_or_pos (oweD false c b g u) with h2 | h2
    · have h' : 0 < oweH c k g u := by omega
      obtain ⟨i, hi, e⟩ := sum_tally_pos _ _ _ _ _ h'
      exact .inr (.inr ⟨i, (Finset.mem_Ico.mp hi).1, (Finset.mem_Ico.mp hi).2, e⟩)
    · obtain ⟨i, hi, e⟩ := sum_tally_pos _ _ _ _ _ h2
      exact .inr (.inl ⟨i, (Finset.mem_Ico.mp hi).1, (Finset.mem_Ico.mp hi).2, e⟩)
  · obtain ⟨i, hi, e⟩ := sum_tally_pos _ _ _ _ _ h1
    exact .inl ⟨i, (Finset.mem_Ico.mp hi).1, (Finset.mem_Ico.mp hi).2, e⟩

/-- A wait whose level is below everything still owed is allowed. -/
theorem mayWait_cell {ch : Ch} (hc : ch.ok) (c : Dev nD) {a b k : ℕ} (ha : chLv ch < 2 + a ∨ 16 ≤ a) (hb : chLv ch < 2 + b ∨ 15 ≤ b)
    (hk : chLv ch < 100 + k) :
    (levAts L lv : sProp 𝕄) ⊢ MayWait (c : Thread nD τ) (semOf ch) () (owe c a b k) :=
  MayOwe.of_cut (L := L) (lev := lv) (chLv ch) (fun p hp => by rw [Finset.mem_singleton.mp hp, L_tc]; exact Finset.mem_singleton_self _)
    (fun g u hg => by
      rcases owe_pos hg with ⟨i, _, _, e⟩ | ⟨i, _, _, e⟩ | ⟨i, _, _, e⟩ <;> rw [e, L_tc] <;> exact Finset.mem_singleton_self _)
    (fun p hp => by rw [Finset.mem_singleton.mp hp]; exact (lv_cell hc c).le)
    (fun g u hg => by
      rcases owe_pos hg with ⟨i, h1, h2, e⟩ | ⟨i, h1, h2, e⟩ | ⟨i, h1, h2, e⟩
      · rw [e]; rw [show lv _ u = chLv (.rcv true i) from lv_cell (ch := .rcv true i) h2 _]
        have : i < 16 := h2
        show _ < 2 + i; omega
      · rw [e]; rw [show lv _ u = chLv (.rcv false i) from lv_cell (ch := .rcv false i) h2 _]
        have : i < 15 := h2
        show _ < 2 + i; omega
      · rw [e]; rw [show lv _ u = chLv (.hr i) from lv_cell (ch := .hr i) h2 _]
        show _ < 100 + i; omega)

end Cert.KernelIdeal.Talk
-- ==== Proof.KernelIdealViews.lean ====
/-
  What the kernel's views read and write: the slots of the buffer of blocks, the rows of the product, the received maxima.
-/
module

public import proofs.«01_k».proof.Proof.KernelIdealSched

@[expose] public section
noncomputable section

namespace Cert.KernelIdeal.Talk

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-- A view's elements after a write of what another contents reads there are that contents'. -/
theorem write_read_on {sp : Space} {s : Shape} {e : EltTy} (v : View sig .tc sp s e) (f g : v.ty.Contents (Elt F))
    (w : s.Idx → Elt F e) (hw : v.read (Elt F) g = w) : ∀ i ∈ v.set, v.write (Elt F) f w Finset.univ i = g i := by
  intro i hi
  rw [← hw, View.write_read_eq_piecewise]
  exact Finset.piecewise_eq_of_mem _ _ _ hi

section Slots
variable (X : Dev nD → Vec F S128x4096 .bf16) (Wt : Dev nD → Vec F S4096x256 .bf16)

theorem idOf_mod (c : Fin 32) (k : ℕ) : idOf c (k % 32) = idOf c k := by
  unfold idOf; congr 2; exact Fin.ext (Nat.mod_mod _ _)

/-- A slot's load reads the block it holds. -/
theorem slot_load (c : Dev nD) (k : ℕ) :
    (commM : Memref sig .tc .vmem S32x128x4096 .bf16).view.readAt (Elt F) (slotR k).toLoadRect (commF X c) = k0_pay2 (X (idOf c k)) := by
  funext (j : S1x128x4096.Idx)
  have h0 : (j 0).val = 0 := by have : (j 0).val < 1 := (j 0).isLt; omega
  show k0_pay2 (X (idOf c (k % 32 + 1 * (j 0).val))) (ix3 (⟨0, by decide⟩ : Fin 1) ⟨0 + 1 * (j 1).val, _⟩ ⟨0 + 1 * (j 2).val, _⟩) = _
  rw [h0, Nat.mul_zero, Nat.add_zero, idOf_mod]
  congr 1
  funext a
  match a with
  | ⟨0, _⟩ => exact Fin.ext h0.symm
  | ⟨1, _⟩ => exact Fin.ext (show 0 + 1 * (j 1).val = (j 1).val by omega)
  | ⟨2, _⟩ => exact Fin.ext (show 0 + 1 * (j 2).val = (j 2).val by omega)

/-- A slot reads, as a copy's source, the block it holds. -/
theorem slot_read (c : Dev nD) (k : ℕ) :
    (slotM k).view.read (Elt F) (commF X c) = shapeCast S128x4096 (k0_pay2 (X (idOf c k))) shapeCasts_S1x128x4096_S128x4096 := by
  rw [← slot_load X c k]; rfl

/-- What a hop's landing leaves in the destination slot. -/
theorem slot_landed {c e : Dev nD} {k k' : ℕ} (h : idOf e k' = idOf c k) (q : PosShare TreeShare) (fd : (cc0_scratch0 : Ref sig .tc).ty.Contents (Elt F)) :
    (((slotM k').view.loc (e : Thread nD τ)) ↦[(slotM k').view.set]{q} ((slotM k').view.write (Elt F) fd ((slotM k).view.read (Elt F) (commF X c)) Finset.univ) : sProp 𝕄)
      = slotPts e k' q (commF X e) :=
  pointsTo_congr (write_read_on (slotM k').view fd (commF X e) _ (by rw [slot_read, slot_read, h]))

theorem slot_set (k : ℕ) : (slotM k).view.set = ((commM : Memref sig .tc .vmem S32x128x4096 .bf16).view.slice (slotR k)).set := View.set_reshape _ _

/-- The elements of a slot's rectangle. -/
theorem slotR_mem {k : ℕ} {i : S32x128x4096.Idx} : i ∈ (slotR k).set ↔ (i 0).val = k % 32 := by
  rw [Rect.mem_set_unit]
  constructor
  · intro h
    have := h 0
    have h1 : k % 32 ≤ (i 0).val ∧ (i 0).val < k % 32 + 1 := this
    omega
  · intro h a
    have hk : k % 32 < 32 := Nat.mod_lt _ (by decide)
    match a with
    | ⟨0, _⟩ => exact (show k % 32 ≤ (i 0).val ∧ (i 0).val < k % 32 + 1 by omega)
    | ⟨1, _⟩ => exact (show 0 ≤ (i 1).val ∧ (i 1).val < 0 + 128 from ⟨Nat.zero_le _, by have h : (i 1).val < 128 := (i 1).isLt; omega⟩)
    | ⟨2, _⟩ => exact (show 0 ≤ (i 2).val ∧ (i 2).val < 0 + 4096 from ⟨Nat.zero_le _, by have h : (i 2).val < 4096 := (i 2).isLt; omega⟩)

/-- The elements of a slot. -/
theorem slot_mem {k : ℕ} {i : S32x128x4096.Idx} : i ∈ (slotM k).view.set ↔ (i 0).val = k % 32 := by
  rw [slot_set, View.set_slice, ← slotR_mem]
  exact ⟨fun h => by obtain ⟨x, hx, rfl⟩ := Finset.mem_map.mp h; exact hx, fun h => Finset.mem_map.mpr ⟨i, h, rfl⟩⟩

/-- What storing a device's own block leaves in slot 0. -/
theorem slot_stored (c : Dev nD) (q : PosShare TreeShare) (f : (cc0_scratch0 : Ref sig .tc).ty.Contents (Elt F)) :
    (((slotM 0).view.loc (c : Thread nD τ)) ↦[(slotM 0).view.set]{q} (((commM : Memref sig .tc .vmem S32x128x4096 .bf16).access (slotR 0)).write (Elt F) f (k0_pay2 (X c)) Finset.univ) : sProp 𝕄)
      = slotPts c 0 q (commF X c) := by
  refine pointsTo_congr fun i hi => ?_
  rw [slot_set] at hi
  refine write_read_on ((commM : Memref sig .tc .vmem S32x128x4096 .bf16).access (slotR 0)) f (commF X c) _ ?_ i hi
  have := slot_load X c 0
  rw [idOf_zero] at this
  exact this

end Slots

section Out
variable (X : Dev nD → Vec F S128x4096 .bf16) (Wt : Dev nD → Vec F S4096x256 .bf16)

/-- The word of a device's number. -/
abbrev word (o : Fin 32) : BitVec 32 := BitVec.ofNat 32 o.val

theorem off_word : ∀ o : Fin 32, k0_off1 (word o) = ![128 * o.val, 0] := by decide +kernel
theorem chk_word : ∀ o : Fin 32, k0_chk3 (word o) := by decide +kernel

theorem rows_inb (o : Fin 32) : ∀ a, (![128 * o.val, 0] : Fin 2 → ℕ) a + S128x256.size a ≤ S4096x256.size a := by
  have := o.isLt
  intro a; fin_cases a <;> simp [S128x256, S4096x256] <;> omega

/-- The rows of device `o`'s block. -/
abbrev rowR (o : Fin 32) : Rect S4096x256 := Rect.unit (s := S4096x256) ![128 * o.val, 0] S128x256.size (rows_inb o)

/-- Storing the product of device `o`'s block settles its rows and leaves the others. -/
theorem rows_stored (c : Dev nD) (o : Fin 32) (f : (cc0_stg3_0 : Ref sig .tc).ty.Contents (Elt F)) (i : S4096x256.Idx) :
    ((oM : Memref sig .tc .vmem S4096x256 .f32).access (rowR o)).write (Elt F) f (k0_pay3 (k0_pay2 (X o)) (Wt c)) Finset.univ i
      = if (i 0).val / 128 = o.val then outF X Wt c i else f i := by
  by_cases h : (i 0).val / 128 = o.val
  · rw [if_pos h]
    refine write_read_on ((oM : Memref sig .tc .vmem S4096x256 .f32).access (rowR o)) f (outF X Wt c) _ ?_ i ?_
    · funext (j : S128x256.Idx)
      have hj : (j 0).val < 128 := (j 0).isLt
      have e1 : (128 * o.val + 1 * (j 0).val) / 128 = o.val := by omega
      have e2 : (128 * o.val + 1 * (j 0).val) % 128 = (j 0).val := by omega
      show k0_pay3 (k0_pay2 (X ⟨(128 * o.val + 1 * (j 0).val) / 128, _⟩)) (Wt c) (ix2 (⟨(128 * o.val + 1 * (j 0).val) % 128, _⟩ : Fin 128) ⟨0 + 1 * (j 1).val, _⟩) = _
      have e3 : (⟨(128 * o.val + 1 * (j 0).val) / 128, by rw [e1]; exact o.isLt⟩ : Fin 32) = o := Fin.ext e1
      have e4 : ix2 (⟨(128 * o.val + 1 * (j 0).val) % 128, Nat.mod_lt _ (by decide)⟩ : Fin 128) (⟨0 + 1 * (j 1).val, by have h : (j 1).val < 256 := (j 1).isLt; omega⟩ : Fin 256) = j := by
        funext a
        match a with
        | ⟨0, _⟩ => exact Fin.ext e2
        | ⟨1, _⟩ => exact Fin.ext (show 0 + 1 * (j 1).val = (j 1).val by omega)
      exact (congrArg (fun z : Fin 32 => k0_pay3 (k0_pay2 (X z)) (Wt c) _) e3).trans (congrArg _ e4)
    · refine Finset.mem_map.mpr ⟨ix2 (⟨(i 0).val % 128, Nat.mod_lt _ (by decide)⟩ : Fin 128) (i 1), Finset.mem_univ _, ?_⟩
      funext a
      match a with
      | ⟨0, _⟩ => exact Fin.ext (show 128 * o.val + 1 * ((i 0).val % 128) = (i 0).val by omega)
      | ⟨1, _⟩ => exact Fin.ext (show 0 + 1 * (i 1).val = (i 1).val by omega)
  · rw [if_neg h]
    refine View.write_of_not_mem _ _ _ fun hm => h ?_
    obtain ⟨x, -, rfl⟩ := Finset.mem_map.mp hm
    have hx : (x 0).val < 128 := (x 0).isLt
    show (128 * o.val + 1 * (x 0).val) / 128 = _
    omega

end Out

section Maxima

/-- What a maximum's landing leaves in the destination cell. -/
theorem hc_landed (e : Dev nD) (k : ℕ) (v : F .f32) (fd : (cc0_scratch6 : Ref sig .tc).ty.Contents (Elt F)) :
    (((hcM k).view.loc (e : Thread nD τ)) ↦[(hcM k).view.set]{fullShare} ((hcM k).view.write (Elt F) fd
        ((hbM : Memref sig .tc .vmem S1x1 .f32).view.read (Elt F) (fun _ => v)) Finset.univ) : sProp 𝕄)
      = hcPts e k (fun _ => v) :=
  pointsTo_congr (write_read_on (hcM k).view fd (fun _ => v) _ rfl)

theorem hc_set (k : ℕ) : (hcM k).view.set = ((hiM : Memref sig .tc .vmem S5x1x1 .f32).view.slice (hcR k)).set := View.set_reshape _ _

end Maxima

end Cert.KernelIdeal.Talk
-- ==== Proof.KernelIdealHops.lean ====
/-
  The steps of the gathering phase: what a device holds after some hops of each direction, and what one instruction makes of it.
-/
module

public import proofs.«01_k».proof.Proof.KernelIdealViews

@[expose] public section
noncomputable section

namespace Cert.KernelIdeal.Talk

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

attribute [local irreducible] sl peer idOf pos cyc pt travels

abbrev 𝒱₀ : Variants := Variants.none

/-! ## Big conjunctions over intervals -/

section Big
variable {M : Type} [URA M] (Φ : ℕ → sProp M)

theorem big_head {a b : ℕ} (h : a < b) : bigSep (Finset.Ico a b) Φ = iprop(Φ a ∗ bigSep (Finset.Ico (a + 1) b) Φ) := by
  rw [show Finset.Ico a b = insert a (Finset.Ico (a + 1) b) by ext x; simp only [Finset.mem_Ico, Finset.mem_insert]; omega,
    bigSep_insert (by simp)]
  rfl
theorem big_last {a b : ℕ} (h : a ≤ b) : bigSep (Finset.Ico a (b + 1)) Φ = iprop(Φ b ∗ bigSep (Finset.Ico a b) Φ) := by
  rw [show Finset.Ico a (b + 1) = insert b (Finset.Ico a b) by ext x; simp only [Finset.mem_Ico, Finset.mem_insert]; omega,
    bigSep_insert (by simp)]
  rfl
theorem big_range_last (b : ℕ) : bigSep (Finset.range (b + 1)) Φ = iprop(Φ b ∗ bigSep (Finset.range b) Φ) := by
  rw [Finset.range_add_one, bigSep_insert (by simp)]; rfl
theorem big_focus {s : Finset ℕ} {i : ℕ} (h : i ∈ s) : bigSep s Φ = iprop(Φ i ∗ bigSep (s.erase i) Φ) := by
  conv_lhs => rw [← Finset.insert_erase h]
  rw [bigSep_insert (Finset.notMem_erase _ _)]; rfl

end Big

theorem sum_head {M : Type} [AddCommMonoid M] {a b : ℕ} (h : a < b) (f : ℕ → M) :
    ∑ s ∈ Finset.Ico a b, f s = f a + ∑ s ∈ Finset.Ico (a + 1) b, f s := by
  rw [show Finset.Ico a b = insert a (Finset.Ico (a + 1) b) by ext x; simp only [Finset.mem_Ico, Finset.mem_insert]; omega,
    Finset.sum_insert (by simp)]

variable (X : Dev nD → Vec F S128x4096 .bf16) (Wt : Dev nD → Vec F S4096x256 .bf16)

/-! ## The records: every cell's invariant, the barriers begun, the levels -/

/-- The barriers; the dormant cells. -/
@[irreducible] def barCells : Finset (GSem nD τ sig) := Finset.univ.image fun c : Dev nD => cell .bar c
def dorm (p : Dev nD × Fin 72) : GSem nD τ sig := ((p.1 : Thread nD τ), .dma (⟨p.2.val + 4, by have := p.2.isLt; show _ < 76; omega⟩ : DmaSem sig))
@[irreducible] def dormCells : Finset (GSem nD τ sig) := Finset.univ.image dorm

theorem dsem_mem (c : Dev nD) {n : ℕ} (h4 : 4 ≤ n) (h : n < 76) : ((c : Thread nD τ), SemLoc.dma (dsem n)) ∈ dormCells := by
  unfold dormCells
  refine Finset.mem_image.mpr ⟨(c, ⟨n - 4, by omega⟩), Finset.mem_univ _, ?_⟩
  have e : (⟨n - 4 + 4, by show _ < 76; omega⟩ : DmaSem sig) = dsem n := Fin.ext (show n - 4 + 4 = n % 76 by rw [Nat.mod_eq_of_lt h, Nat.sub_add_cancel h4])
  exact congrArg (fun s : DmaSem sig => ((c : Thread nD τ), (SemLoc.dma s : SemLoc sig))) e

theorem bar_mem (c : Dev nD) : cell .bar c ∈ barCells := by
  unfold barCells; exact Finset.mem_image_of_mem (fun c : Dev nD => cell .bar c) (Finset.mem_univ c)

theorem cell_mem {ch : Ch} (h : ch.ok) (c : Dev nD) : cell ch c ∈ barCells ∪ dormCells := by
  cases ch with
  | bar => exact Finset.mem_union_left _ (bar_mem c)
  | other => exact absurd h id
  | snd d i => refine Finset.mem_union_right _ (dsem_mem c ?_ ?_) <;> cases d <;> (have h : i < _ := h; simp only [hops, sndBase] at *; simp at *; try omega)
  | rcv d i => refine Finset.mem_union_right _ (dsem_mem c ?_ ?_) <;> cases d <;> (have h : i < _ := h; simp only [hops, rcvBase] at *; simp at *; omega)
  | hs k => have h : k < 5 := h; exact Finset.mem_union_right _ (dsem_mem c (by omega) (by omega))
  | hr k => have h : k < 5 := h; exact Finset.mem_union_right _ (dsem_mem c (by omega) (by omega))

theorem third {M : Type} [URA M] (A B C : sProp M) : iprop(A ∗ B ∗ C) ⊢ C := sep_elim_right.trans sep_elim_right

/-- What every device knows throughout. -/
@[irreducible] def records (K : GSem nD τ sig → ℕ) : sProp 𝕄 :=
  iprop(bigSep (barCells ∪ dormCells) (fun g => cellInv ER (rd X Wt) (K g) g) ∗ bigSep barCells (fun g => reached ER g 0) ∗ levAts L lv)

instance records_persistent (K : GSem nD τ sig → ℕ) : BI.Persistent (records (F := F) X Wt K) := by unfold records; infer_instance

theorem rec_inv (K : GSem nD τ sig → ℕ) {ch : Ch} (h : ch.ok) (c : Dev nD) :
    records X Wt K ⊢ cellInv ER (rd X Wt) (K (cell ch c)) (cell ch c) := by
  unfold records
  exact sep_elim_left.trans (bigSep_elim (Φ := fun g => cellInv ER (rd X Wt) (K g) g) (cell_mem h c))
theorem rec_bar (K : GSem nD τ sig → ℕ) (c : Dev nD) : records X Wt K ⊢ reached ER (cell .bar c) 0 := by
  unfold records
  exact sep_elim_right.trans (sep_elim_left.trans (bigSep_elim (Φ := fun g => reached ER g 0) (bar_mem c)))
theorem rec_lev (K : GSem nD τ sig → ℕ) : records X Wt K ⊢ (levAts L lv : sProp 𝕄) := by
  unfold records
  exact third _ _ _

/-! ## One direction -/

/-- What hop `i` takes: its two duties, both begun, and the neighbour's slot. -/
def hopRes (d : Bool) (c : Dev nD) (i : ℕ) : sProp 𝕄 :=
  iprop(dutyTok ER (cell (.snd d i) c) 0 true ∗ reached ER (cell (.snd d i) c) 0
    ∗ dutyTok ER (cell (.rcv d i) (peer d c)) 0 true ∗ reached ER (cell (.rcv d i) (peer d c)) 0
    ∗ ∃ f, slotPts (peer d c) (sl d (i + 1)) fullShare f)
/-- What the wait for arrival `i` takes. -/
def waitRes (d : Bool) (c : Dev nD) (i : ℕ) : sProp 𝕄 :=
  iprop(atPos ER (cell (.rcv d i) c) 0 ∅ 0 ∗ cred (tallyAt (cell (.rcv d i) c) () N))
/-- What is ready for hop `i`: the block, and the rights that travel with it. -/
def stock (d : Bool) (c : Dev nD) (i : ℕ) : sProp 𝕄 :=
  iprop(slotPts c (sl d i) (shr d i) (commF X c) ∗ rights d i (idOf c (sl d i)))
/-- The rights that end their way here. -/
def arrivals (c : Dev nD) (o : Dev nD) : sProp 𝕄 := bigSep (Finset.range 5) fun k => if pt o k = c then right o k else iprop(emp)
/-- What a completed send leaves. -/
def doneS (d : Bool) (c : Dev nD) (i : ℕ) : sProp 𝕄 :=
  iprop(slotPts c (sl d i) (shr d i) (commF X c) ∗ semVal (cell (.snd d i) c) 0)
/-- What an arrival leaves. -/
def doneR (d : Bool) (c : Dev nD) (i : ℕ) : sProp 𝕄 :=
  iprop(slotPts c (sl d (i + 1)) fullShare.right (commF X c) ∗ arrivals c (idOf c (sl d (i + 1))) ∗ semVal (cell (.rcv d i) c) 0)

/-- Direction `d` after `a` sends, `b` arrivals and `e` completed sends. -/
def chain (d : Bool) (c : Dev nD) (a b e : ℕ) : sProp 𝕄 :=
  iprop(bigSep (Finset.Ico a (hops d)) (hopRes d c) ∗ bigSep (Finset.Ico b (hops d)) (waitRes d c)
    ∗ bigSep (Finset.Ico e (hops d)) (fun i => atPos ER (cell (.snd d i) c) 0 ∅ 0)
    ∗ bigSep (Finset.Ico e a) (fun i => cred (tallyAt (cell (.snd d i) c) () N))
    ∗ bigSep (Finset.Ico a (b + 1)) (stock X d c) ∗ bigSep (Finset.range e) (doneS X d c) ∗ bigSep (Finset.range b) (doneR X d c))

theorem close_cell (κ : ℕ) (g : GSem nD τ sig) :
    iprop(cellInv ER (rd X Wt) κ g ∗ atPos ER g (0 + 1) ∅ 0) ⊢ (|={Set.univ}=> semVal g 0 : sProp 𝕄) :=
  Rounds.cell_close ER (rd X Wt) (Set.mem_univ κ) id (duties_later X Wt g)

theorem shr_succ (d : Bool) (i : ℕ) : shr d (i + 1) = fullShare.left := if_neg (Nat.succ_ne_zero i)

/-- The rights that arrive with a block: those that end here, and those that travel on. -/
theorem rights_split {d : Bool} {i : ℕ} (h : i < hops d) (c : Dev nD) :
    rights (F := F) d i (idOf c (sl d (i + 1))) ⊢ iprop(arrivals c (idOf c (sl d (i + 1))) ∗ rights d (i + 1) (idOf c (sl d (i + 1)))) := by
  unfold rights arrivals
  rw [← bigSep_sep']
  refine bigSep_mono fun k hk => ?_
  have hk := Finset.mem_range.mp hk
  by_cases h1 : pt (idOf c (sl d (i + 1))) k = c
  · rw [if_pos h1, if_neg (travels_excl h c hk h1), if_pos ((travels_step h c hk).mpr (.inl h1))]
    exact (sep_emp (PROP := sProp 𝕄)).2
  · rw [if_neg h1]
    by_cases h2 : travels d (i + 1) (idOf c (sl d (i + 1))) k
    · rw [if_pos h2, if_pos ((travels_step h c hk).mpr (.inr h2))]
      exact (emp_sep (PROP := sProp 𝕄)).2
    · rw [if_neg h2, if_neg (fun hh => ((travels_step h c hk).mp hh).elim h1 h2)]
      exact (emp_sep (PROP := sProp 𝕄)).2

theorem owe_send_true {c : Dev nD} {a b k : ℕ} (h : a < hops true) :
    owe c a b k = owe c (a + 1) b k + tallyAt (cell (.rcv true a) (peer true c)) () N := by
  unfold owe
  rw [show oweD true c a = tallyAt (cell (.rcv true a) (peer true c)) () N + oweD true c (a + 1) from sum_head h _]
  ac_rfl
theorem owe_send_false {c : Dev nD} {a b k : ℕ} (h : b < hops false) :
    owe c a b k = owe c a (b + 1) k + tallyAt (cell (.rcv false b) (peer false c)) () N := by
  unfold owe
  rw [show oweD false c b = tallyAt (cell (.rcv false b) (peer false c)) () N + oweD false c (b + 1) from sum_head h _]
  ac_rfl

variable (K : GSem nD τ sig → ℕ) (c : Dev nD)

theorem duty_one {ch : Ch} (h : ch.ok) (h1 : chDuties ch = {true}) : true ∈ (rd X Wt).duties (cell ch c) 0 := by
  rw [duties_cell X Wt c h, h1]; exact Finset.mem_singleton_self _
theorem pay_snd {d : Bool} {a : ℕ} (ha : a < hops d) :
    slotPts c (sl d a) (shr d a) (commF X c) ⊢ (rd X Wt).payload (cell (.snd d a) c) 0 true := by
  rw [payload_cell X Wt c (ch := .snd d a) ha]; exact BI.Entails.refl _
/-- What a hop's landing leaves. -/
abbrev land (k k' : ℕ) (fd f : (cc0_scratch0 : Ref sig .tc).ty.Contents (Elt F)) : (cc0_scratch0 : Ref sig .tc).ty.Contents (Elt F) :=
  (slotM k').view.write (Elt F) fd ((slotM k).view.read (Elt F) f) Finset.univ
theorem pay_rcv {d : Bool} {a : ℕ} (ha : a < hops d) (fd : (cc0_scratch0 : Ref sig .tc).ty.Contents (Elt F)) :
    iprop(slotPts (peer d c) (sl d (a + 1)) fullShare (land (sl d a) (sl d (a + 1)) fd (commF X c))
        ∗ rights d a (idOf c (sl d a)))
      ⊢ (rd X Wt).payload (cell (.rcv d a) (peer d c)) 0 true := by
  rw [payload_cell X Wt (peer d c) (ch := .rcv d a) ha, show slotPts (peer d c) (sl d (a + 1)) fullShare (land (sl d a) (sl d (a + 1)) fd (commF X c)) = _ from slot_landed X (idOf_peer ha c) fullShare fd]
  simp only [chPay, rcvPay]
  rw [idOf_peer ha c]

/-- One copy of a slot into a slot of device `p`. -/
theorem send_gen (p : Dev nD) (k k' : ℕ) (sS rS : DmaSem sig) (κ₁ κ₂ : ℕ) (q : PosShare TreeShare)
    (fs fd : (cc0_scratch0 : Ref sig .tc).ty.Contents (Elt F)) (R : sProp 𝕄) (O : CellTallies nD τ sig Unit) (W : Waits sig Unit)
    (hd₁ : true ∈ (rd X Wt).duties ((c : Thread nD τ), .dma sS) 0) (hd₂ : true ∈ (rd X Wt).duties ((p : Thread nD τ), .dma rS) 0)
    (hk₁ : (rd X Wt).amount ((c : Thread nD τ), .dma sS) 0 true = N) (hk₂ : (rd X Wt).amount ((p : Thread nD τ), .dma rS) 0 true = N)
    (hp₁ : slotPts c k q fs ⊢ (rd X Wt).payload ((c : Thread nD τ), .dma sS) 0 true)
    (hp₂ : iprop(slotPts p k' fullShare (land k k' fd fs) ∗ R) ⊢ (rd X Wt).payload ((p : Thread nD τ), .dma rS) 0 true)
    (Kt : PUnit → sProp 𝕄) :
    iprop((cellInv ER (rd X Wt) κ₁ ((c : Thread nD τ), .dma sS) ∗ cellInv ER (rd X Wt) κ₂ ((p : Thread nD τ), .dma rS)
        ∗ slotPts c k q fs ∗ (slotPts p k' fullShare fd ∗ R)
        ∗ owes (c : Thread nD τ) (O + tallyAt ((p : Thread nD τ), .dma rS) () N) W
        ∗ dutyTok ER ((c : Thread nD τ), .dma sS) 0 true ∗ reached ER ((c : Thread nD τ), .dma sS) 0
        ∗ dutyTok ER ((p : Thread nD τ), .dma rS) 0 true ∗ reached ER ((p : Thread nD τ), .dma rS) 0)
      ∗ ((cred (tallyAt ((c : Thread nD τ), .dma sS) () N) ∗ owes (c : Thread nD τ) O W) -∗ Kt ⟨⟩))
      ⊢ wp frame (wpE (defs₀ (F := F)) 𝒱₀ c none) Set.univ
          (Prog.lift (.enqueueDma (slotM k) (.remote (Dev.tc p) (slotM k') (.dma sS)) (.dma rS) (slot_wordExact _) (slot_wordExact _) ⟨⟨rfl, Or.inl rfl⟩, trivial⟩) : TProg F PUnit) Kt := by
  simp only [Prog.lift]
  iintro ⟨H, Hk⟩
  iapply (Rounds.wp_send_pointsTo_with 𝒱₀ ER (rd X Wt) (c : Thread nD τ) none (c' := (p : Thread nD τ)) (src := slotM k)
      (dst := slotM k') (sS := .dma sS) (sem := .dma rS) (q := q) (fs := fs) (fd := fd)
      (F := R) (κ₁ := κ₁) (κ₂ := κ₂) (r₁ := 0) (r₂ := 0) (d₁ := true) (d₂ := true)
      hd₁ hd₂ () () N rfl hk₁ hk₂ O rfl (W := W) hp₁ hp₂) $$ H
  iintro H
  simp only [wp_ret]
  imodintro
  iapply Hk
  iexact H

/-- One wait on a DMA cell with one duty: the duty's payload, and the counter back at zero. -/
theorem wait_gen (k k' : ℕ) (ch : Ch) (s : DmaSem sig) (hs : semOf ch = .dma s) (h : ch.ok) (h1 : chDuties ch = {true}) (hN : chAmount ch = N) (κ : ℕ)
    (O : CellTallies nD τ sig Unit) (W : Waits sig Unit) (Kt : PUnit → sProp 𝕄) :
    iprop((cellInv ER (rd X Wt) κ (cell ch c) ∗ cred (tallyAt (cell ch c) () N) ∗ owes (c : Thread nD τ) O W
        ∗ MayWait (c : Thread nD τ) (semOf ch) () O ∗ atPos ER (cell ch c) 0 ∅ 0)
      ∗ ((owes (c : Thread nD τ) O (insert (semOf ch, ()) W) ∗ chPay X Wt c true ch ∗ semVal (cell ch c) 0) -∗ Kt ⟨⟩))
      ⊢ wp frame (wpE (defs₀ (F := F)) 𝒱₀ c none) Set.univ
          (Prog.lift (.waitDma2 s (slotM k) (slotM k') (slot_wordExact _) (slot_wordExact _)) : TProg F PUnit) Kt := by
  have he := (expect_one X Wt c h h1).trans hN
  have hr := rest_one X Wt c h h1
  have hcl := close_cell X Wt κ (cell ch c)
  generalize chPay X Wt c true ch = P at hr ⊢
  unfold cell at he hr hcl ⊢
  rw [hs] at he hr hcl ⊢
  simp only [Prog.lift]
  iintro ⟨⟨#HI, H⟩, Hk⟩
  iapply (Rounds.wp_wait_rest_token 𝒱₀ ER (rd X Wt) (c : Thread nD τ) none (κ := κ)
      (wpE_waitDma2_eq (src := slotM k) (dst := slotM k') 𝒱₀ (c : Thread nD τ) none Set.univ) (Set.mem_univ _) () (O := O) (W := W) (R := 0) (m := 0) (T := ∅)
      ((Nat.zero_add _).trans he.symm)) $$ [H]
  · isplitr; · iexact HI
    iexact H
  iintro ⟨HO, Hat, -, Hpay⟩
  ihave Hpay := (Entails.of_eq hr) $$ Hpay
  imod hcl $$ [Hat] with Hsv
  · isplitr; · iexact HI
    iexact Hat
  simp only [wp_ret]
  imodintro
  iapply Hk
  isplitl [HO]; · iexact HO
  isplitl [Hpay]; · iexact Hpay
  iexact Hsv

/-- Hop `a`: the copy pays its own completion with the source's share, and the neighbour's arrival with the slot and the rights. -/
theorem send_step {d : Bool} {a b e : ℕ} (ha : a < hops d) (hab : a ≤ b) (hea : e ≤ a) (O : CellTallies nD τ sig Unit)
    (Kt : PUnit → sProp 𝕄) :
    iprop(records X Wt K ∗ (chain X d c a b e ∗ ∃ W, owes (c : Thread nD τ) (O + tallyAt (cell (.rcv d a) (peer d c)) () N) W)
        ∗ ((chain X d c (a + 1) b e ∗ ∃ W, owes (c : Thread nD τ) O W) -∗ Kt ⟨⟩))
      ⊢ wp frame (wpE (defs₀ (F := F)) 𝒱₀ c none) Set.univ (sendP (peer d c) d a) Kt := by
  unfold chain
  rw [big_head (hopRes d c) ha, big_head (stock X d c) (Nat.lt_succ_of_le hab), big_last _ hea]
  unfold sendP
  iintro ⟨#HR, ⟨⟨⟨Hh, Hhs⟩, Hw, Hp, Hc, ⟨Hs, Hss⟩, HdS, HdR⟩, ⟨%W, HO⟩⟩, Hk⟩
  unfold hopRes stock
  icases Hh with ⟨HtS, #HrS, HtR, #HrR, ⟨%fd, Hd⟩⟩
  icases Hs with ⟨Hsrc, Hrt⟩
  ihave #HI1 := (rec_inv X Wt K (ch := .snd d a) ha c) $$ HR
  ihave #HI2 := (rec_inv X Wt K (ch := .rcv d a) ha (peer d c)) $$ HR
  iapply (send_gen X Wt c (peer d c) (sl d a) (sl d (a + 1)) (sndS d a) (rcvS d a) (K (cell (.snd d a) c)) (K (cell (.rcv d a) (peer d c)))
      (shr d a) (commF X c) fd (rights d a (idOf c (sl d a))) O W
      (duty_one X Wt c (ch := .snd d a) ha rfl) (duty_one X Wt (peer d c) (ch := .rcv d a) ha rfl)
      (amount_cell X Wt c (ch := .snd d a) ha 0 true) (amount_cell X Wt (peer d c) (ch := .rcv d a) ha 0 true)
      (pay_snd X Wt c ha) (pay_rcv X Wt c ha fd) Kt)
  isplitl [Hsrc Hrt Hd HO HtS HtR]
  · isplitr; · iexact HI1
    isplitr; · iexact HI2
    isplitl [Hsrc]; · iexact Hsrc
    isplitl [Hd Hrt]
    · isplitl [Hd]; · iexact Hd
      iexact Hrt
    isplitl [HO]; · iexact HO
    isplitl [HtS]; · iexact HtS
    isplitr; · iexact HrS
    isplitl [HtR]; · iexact HtR
    iexact HrR
  iintro ⟨Hcr, HO⟩
  iapply Hk
  isplitr [HO]
  · isplitl [Hhs]; · iexact Hhs
    isplitl [Hw]; · iexact Hw
    isplitl [Hp]; · iexact Hp
    isplitl [Hcr Hc]
    · isplitl [Hcr]; · iexact Hcr
      iexact Hc
    isplitl [Hss]; · iexact Hss
    isplitl [HdS]; · iexact HdS
    iexact HdR
  · iexists W; iexact HO

/-- The wait for arrival `b`: the slot is split into the share the next hop reads through and the share the product reads. -/
theorem recv_step {d : Bool} {b e : ℕ} (hb : b < hops d) (O : CellTallies nD τ sig Unit)
    (hm : (levAts L lv : sProp 𝕄) ⊢ MayWait (c : Thread nD τ) (semOf (.rcv d b)) () O) (Kt : PUnit → sProp 𝕄) :
    iprop(records X Wt K ∗ (chain X d c (b + 1) b e ∗ ∃ W, owes (c : Thread nD τ) O W)
        ∗ ((chain X d c (b + 1) (b + 1) e ∗ ∃ W, owes (c : Thread nD τ) O W) -∗ Kt ⟨⟩))
      ⊢ wp frame (wpE (defs₀ (F := F)) 𝒱₀ c none) Set.univ (recvP d b) Kt := by
  have hm' : records X Wt K ⊢ MayWait (c : Thread nD τ) (semOf (.rcv d b)) () O := Idealize.SL.BI.Entails.trans (@rec_lev F _ X Wt K) hm
  unfold chain
  rw [big_head (waitRes d c) hb, big_last (stock X d c) (le_refl (b + 1)), big_range_last (doneR X d c) b]
  unfold recvP
  iintro ⟨#HR, ⟨⟨Hhs, ⟨Hw, Hws⟩, Hp, Hc, Hss, HdS, HdR⟩, ⟨%W, HO⟩⟩, Hk⟩
  unfold waitRes
  icases Hw with ⟨Hat, Hcr⟩
  ihave #HI1 := (rec_inv X Wt K (ch := .rcv d b) hb c) $$ HR
  iapply (wait_gen X Wt c (sl d b) (sl d (b + 1)) (.rcv d b) (rcvS d b) rfl hb rfl rfl (K (cell (.rcv d b) c)) O W Kt)
  isplitl [Hcr HO Hat]
  · isplitr; · iexact HI1
    isplitl [Hcr]; · iexact Hcr
    isplitl [HO]; · iexact HO
    isplitr; · iapply hm'; iexact HR
    iexact Hat
  iintro ⟨HO, Hpay, Hsv⟩
  simp only [chPay, rcvPay]
  icases Hpay with ⟨Hslot, Hrt⟩
  ihave Hrt := (rights_split hb c) $$ Hrt
  icases Hrt with ⟨Harr, Hrt⟩
  ihave Hslot := (pointsTo_share (PosShare.mem_left_op_right fullShare)).1 $$ Hslot
  icases Hslot with ⟨Hl, Hr⟩
  iapply Hk
  isplitr [HO]
  · isplitl [Hhs]; · iexact Hhs
    isplitl [Hws]; · iexact Hws
    isplitl [Hp]; · iexact Hp
    isplitl [Hc]; · iexact Hc
    isplitl [Hl Hrt Hss]
    · isplitl [Hl Hrt]
      · unfold stock
        rw [shr_succ]
        isplitl [Hl]; · iexact Hl
        iexact Hrt
      · iexact Hss
    isplitl [HdS]; · iexact HdS
    isplitl [Hr Harr Hsv]
    · unfold doneR
      isplitl [Hr]; · iexact Hr
      isplitl [Harr]; · iexact Harr
      iexact Hsv
    iexact HdR
  · iexists _; iexact HO

/-- The wait for the completion of hop `e` gives its source's share back. -/
theorem ack_step {d : Bool} {a b e : ℕ} (he : e < a) (ha : a ≤ hops d) (O : CellTallies nD τ sig Unit)
    (hm : (levAts L lv : sProp 𝕄) ⊢ MayWait (c : Thread nD τ) (semOf (.snd d e)) () O) (Kt : PUnit → sProp 𝕄) :
    iprop(records X Wt K ∗ (chain X d c a b e ∗ ∃ W, owes (c : Thread nD τ) O W)
        ∗ ((chain X d c a b (e + 1) ∗ ∃ W, owes (c : Thread nD τ) O W) -∗ Kt ⟨⟩))
      ⊢ wp frame (wpE (defs₀ (F := F)) 𝒱₀ c none) Set.univ (ackP d e) Kt := by
  have hm' : records X Wt K ⊢ MayWait (c : Thread nD τ) (semOf (.snd d e)) () O := Idealize.SL.BI.Entails.trans (@rec_lev F _ X Wt K) hm
  unfold chain
  have he' : e < hops d := lt_of_lt_of_le he ha
  rw [big_head (fun i => atPos ER (cell (.snd d i) c) 0 ∅ 0) he', big_head (fun i => cred (tallyAt (cell (.snd d i) c) () N)) he,
    big_range_last (doneS X d c) e]
  unfold ackP
  iintro ⟨#HR, ⟨⟨Hhs, Hw, ⟨Hat, Hp⟩, ⟨Hcr, Hc⟩, Hss, HdS, HdR⟩, ⟨%W, HO⟩⟩, Hk⟩
  ihave #HI1 := (rec_inv X Wt K (ch := .snd d e) he' c) $$ HR
  iapply (wait_gen X Wt c (sl d (e + 1)) (sl d e) (.snd d e) (sndS d e) rfl he' rfl rfl (K (cell (.snd d e) c)) O W Kt)
  isplitl [Hcr HO Hat]
  · isplitr; · iexact HI1
    isplitl [Hcr]; · iexact Hcr
    isplitl [HO]; · iexact HO
    isplitr; · iapply hm'; iexact HR
    iexact Hat
  iintro ⟨HO, Hpay, Hsv⟩
  simp only [chPay, sndPay]
  iapply Hk
  isplitr [HO]
  · isplitl [Hhs]; · iexact Hhs
    isplitl [Hw]; · iexact Hw
    isplitl [Hp]; · iexact Hp
    isplitl [Hc]; · iexact Hc
    isplitl [Hss]; · iexact Hss
    isplitl [HdS Hpay Hsv]
    · isplitl [Hpay Hsv]
      · unfold doneS
        isplitl [Hpay]; · iexact Hpay
        iexact Hsv
      iexact HdS
    iexact HdR
  · iexists _; iexact HO

end Cert.KernelIdeal.Talk
-- ==== Proof.KernelIdealState.lean ====
/-
  The state of the gathering phase, the product of one slot, and the soundness of a straight line of instructions, by a check
  on counters only.
-/
module

public import proofs.«01_k».proof.Proof.KernelIdealHops

@[expose] public section
noncomputable section

namespace Cert.KernelIdeal.Talk

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

attribute [local irreducible] sl peer idOf pos cyc pt travels

variable (X : Dev nD → Vec F S128x4096 .bf16) (Wt : Dev nD → Vec F S4096x256 .bf16) (c : Dev nD)

/-! ## The staged operands -/

/-- The table of devices, seen from device `c`. -/
def idsF (c : Dev nD) : (cc0_stg0_0 : Ref sig .tc).ty.Contents (Elt F) := fun (i : S32.Idx) => (word (idOf c (i 0).val) : BitVec 32)

abbrev idsPts : sProp 𝕄 := ((c : Thread nD τ).loc cc0_stg0_0) ↦{fullShare} (idsF c : (cc0_stg0_0 : Ref sig .tc).ty.Contents (Elt F))
abbrev xPts (x : Vec F S128x4096 .bf16) : sProp 𝕄 := ((c : Thread nD τ).loc cc0_stg1_0) ↦{fullShare} (x : (cc0_stg1_0 : Ref sig .tc).ty.Contents (Elt F))
abbrev wPts (w : Vec F S4096x256 .bf16) : sProp 𝕄 := ((c : Thread nD τ).loc cc0_stg2_0) ↦{fullShare} (w : (cc0_stg2_0 : Ref sig .tc).ty.Contents (Elt F))
abbrev oPts (f : (cc0_stg3_0 : Ref sig .tc).ty.Contents (Elt F)) : sProp 𝕄 := ((c : Thread nD τ).loc cc0_stg3_0) ↦{fullShare} f

/-- The result buffer, settled at the rows of the slots in `G`. -/
def outI (G : List ℕ) : sProp 𝕄 :=
  iprop(∃ f, oPts c f ∗ ⌜∀ i : S4096x256.Idx, (∃ s ∈ G, (idOf c s).val = (i 0).val / 128) → f i = outF X Wt c i⌝)

theorem ids_read (s : ℕ) (x : S1.Idx) :
    ((idsM : Memref sig .tc .smem S32 .i32).access (Rect.unit (s := S32) ![s % 32] S1.size (ids_inb s))).read (Elt F) (idsF c) x = word (idOf c s) := by
  have h0 : (x 0).val = 0 := by have : (x 0).val < 1 := (x 0).isLt; omega
  show word (idOf c (s % 32 + 1 * (x 0).val)) = _
  rw [h0, Nat.mul_zero, Nat.add_zero, idOf_mod]

theorem w_load (w : Vec F S4096x256 .bf16) :
    (wM : Memref sig .tc .vmem S4096x256 .bf16).view.readAt (Elt F) (Rect.unit (s := S4096x256) ![0, 0] S4096x256.size inb_S4096x256_S4096x256_0_0).toLoadRect w = w :=
  Memref.readAt_unit_zero (Elt F) cc0_stg2_0 (by funext a; fin_cases a <;> rfl) _ w

theorem rows_stored_at (o : Fin 32) (off : Fin 2 → ℕ) (ho : off = ![128 * o.val, 0]) (hi : ∀ a, off a + S128x256.size a ≤ S4096x256.size a)
    (f : (cc0_stg3_0 : Ref sig .tc).ty.Contents (Elt F)) (i : S4096x256.Idx) :
    ((oM : Memref sig .tc .vmem S4096x256 .f32).access (Rect.unit (s := S4096x256) off S128x256.size hi)).write (Elt F) f (k0_pay3 (k0_pay2 (X o)) (Wt c)) Finset.univ i
      = if (i 0).val / 128 = o.val then outF X Wt c i else f i := by
  subst ho; exact rows_stored X Wt c o f i

theorem slot_sub (s : ℕ) : (commM : Memref sig .tc .vmem S32x128x4096 .bf16).view.setOn (slotR s).toLoadRect.set ⊆ (slotM s).view.set := by
  rw [slot_set, View.set_slice]
  exact Finset.Subset.refl _

/-- The product of slot `s` settles the rows of the device whose block lies there. -/
theorem gemm_gen (s : ℕ) (q : PosShare TreeShare) (G : List ℕ) (Kt : PUnit → sProp 𝕄) :
    iprop((idsPts c ∗ wPts c (Wt c) ∗ slotPts c s q (commF X c) ∗ outI X Wt c G)
        ∗ ((idsPts c ∗ wPts c (Wt c) ∗ slotPts c s q (commF X c) ∗ outI X Wt c (s :: G)) -∗ Kt ⟨⟩))
      ⊢ wp frame (wpE (defs₀ (F := F)) 𝒱₀ c none) Set.univ (gemmP s) Kt := by
  have hS := slot_sub s
  rw [show slotPts c s q (commF X c) = ((commM : Memref sig .tc .vmem S32x128x4096 .bf16).view.loc (c : Thread nD τ) ↦[(slotM s).view.set]{q} commF X c) from rfl]
  generalize (slotM s).view.set = S at hS ⊢
  unfold gemmP outI
  simp only [smemLoad, smemLoadElt, Prog.lift, Prog.bind_op, Prog.bind_ret, Prog.pure_eq_ret, Prog.bind_assoc]
  iintro ⟨⟨Hi, Hw, Hs, ⟨%f, Ho, %hf⟩⟩, Hk⟩
  iapply (wp_load_rect 𝒱₀ (c : Thread nD τ) none Set.univ (m := idsM) (r := Rect.unit (s := S32) ![s % 32] S1.size (ids_inb s)) (Finset.subset_univ _)) $$ Hi; iintro Hi
  rw [ids_read]
  simp only [wp_assume_of _ _ _ _ (d := k0_chk3.dec _) (chk_word _)]
  iapply (wp_load 𝒱₀ (c : Thread nD τ) none Set.univ (m := commM) (r := (slotR s).toLoadRect) hS) $$ Hs; iintro Hs
  rw [slot_load]
  iapply (wp_load 𝒱₀ (c : Thread nD τ) none Set.univ (m := wM) (Finset.subset_univ _)) $$ Hw; iintro Hw
  rw [w_load]
  iapply (wp_load 𝒱₀ (c : Thread nD τ) none Set.univ (m := oM) (Finset.subset_univ _)) $$ Ho; iintro Ho
  iapply (wp_store 𝒱₀ (c : Thread nD τ) none Set.univ (m := oM) (r := Rect.unit (s := S4096x256) (k0_off1 (word (idOf c s))) S128x256.size (k0_off1_inb _ (chk_word _))) (Mk := Finset.univ) (Finset.subset_univ _)) $$ Ho; iintro Ho
  rw [wp_ret]; imodintro
  iapply Hk
  isplitl [Hi]; · iexact Hi
  isplitl [Hw]; · iexact Hw
  isplitl [Hs]; · iexact Hs
  iexists _
  isplitl [Ho]; · iexact Ho
  ipureintro
  intro i hi
  refine (rows_stored_at X Wt c (idOf c s) _ (off_word _) _ f i).trans ?_
  by_cases h : (i 0).val / 128 = (idOf c s).val
  · rw [if_pos h]
  · rw [if_neg h]
    obtain ⟨s', hs', e⟩ := hi
    rcases List.mem_cons.mp hs' with rfl | hs'
    · exact absurd e.symm h
    · exact hf i ⟨s', hs', e⟩

/-! ## The state -/

/-- Sends issued, arrivals awaited and completions awaited, in each direction; the slots multiplied. -/
structure St where
  (aT bT eT aF bF eF : ℕ)
  G : List ℕ

/-- The share of slot 0 that no copy reads through. -/
abbrev ownPts : sProp 𝕄 := slotPts c 0 fullShare.right.right (commF X c)

/-- What a device holds at a state. -/
def inv (σ : St) : sProp 𝕄 :=
  iprop(chain X true c σ.aT σ.bT σ.eT ∗ chain X false c σ.aF σ.bF σ.eF ∗ (∃ W, owes (c : Thread nD τ) (owe c σ.aT σ.aF 0) W)
    ∗ idsPts c ∗ wPts c (Wt c) ∗ ownPts X c ∗ outI X Wt c σ.G)

/-- The effect of an instruction on the counters, when it may run. -/
def step (σ : St) : Ins → Option St
  | .send true i => if i = σ.aT ∧ σ.aT < 16 ∧ σ.aT ≤ σ.bT ∧ σ.eT ≤ σ.aT then some { σ with aT := σ.aT + 1 } else none
  | .send false i => if i = σ.aF ∧ σ.aF < 15 ∧ σ.aF ≤ σ.bF ∧ σ.eF ≤ σ.aF then some { σ with aF := σ.aF + 1 } else none
  | .recv true i => if i = σ.bT ∧ σ.bT < 16 ∧ σ.aT = σ.bT + 1 ∧ (σ.bT < σ.aF ∨ 15 ≤ σ.aF) then some { σ with bT := σ.bT + 1 } else none
  | .recv false i => if i = σ.bF ∧ σ.bF < 15 ∧ σ.aF = σ.bF + 1 ∧ (σ.bF < σ.aT ∨ 16 ≤ σ.aT) then some { σ with bF := σ.bF + 1 } else none
  | .ack true i => if i = σ.eT ∧ σ.eT < σ.aT ∧ σ.aT ≤ 16 then some { σ with eT := σ.eT + 1 } else none
  | .ack false i => if i = σ.eF ∧ σ.eF < σ.aF ∧ σ.aF ≤ 15 then some { σ with eF := σ.eF + 1 } else none
  | .gemm s => if s = 0 ∨ (0 < s ∧ s ≤ σ.bT) ∨ (s < 32 ∧ 32 ≤ s + σ.bF) then some { σ with G := s :: σ.G } else none

/-- The effect of a straight line. -/
def steps (σ : St) : List Ins → Option St
  | [] => some σ
  | i :: l => (step σ i).bind fun σ' => steps σ' l

/-- An arrived slot's share is in the chain, and goes back. -/
theorem chain_slot {d : Bool} {a b e i : ℕ} (h : i < b) :
    chain X d c a b e ⊢ iprop(slotPts c (sl d (i + 1)) fullShare.right (commF X c)
      ∗ (slotPts c (sl d (i + 1)) fullShare.right (commF X c) -∗ chain X d c a b e)) := by
  unfold chain
  rw [big_focus (doneR X d c) (Finset.mem_range.mpr h)]
  unfold doneR
  iintro ⟨H1, H2, H3, H4, H5, H6, ⟨H7, H8, H9⟩, H10⟩
  isplitl [H7]; · iexact H7
  iintro H7
  isplitl [H1]; · iexact H1
  isplitl [H2]; · iexact H2
  isplitl [H3]; · iexact H3
  isplitl [H4]; · iexact H4
  isplitl [H5]; · iexact H5
  isplitl [H6]; · iexact H6
  isplitr [H10]
  · isplitl [H7]; · iexact H7
    isplitl [H8]; · iexact H8
    iexact H9
  · iexact H10

/-- Which slots hold a block. -/
theorem slots_here {s b b' : ℕ} (h : (0 < s ∧ s ≤ b) ∨ (s < 32 ∧ 32 ≤ s + b')) :
    (∃ i, i < b ∧ sl true (i + 1) = s) ∨ (∃ i, i < b' ∧ sl false (i + 1) = s) := by
  rcases h with ⟨h0, h1⟩ | ⟨h1, h2⟩
  · exact .inl ⟨s - 1, by omega, by unfold sl; simp; omega⟩
  · exact .inr ⟨31 - s, by omega, by unfold sl; simp; omega⟩

variable (K : GSem nD τ sig → ℕ)

/-- One instruction of the gathering phase is sound where the check lets it run. -/
theorem step_sound {σ σ' : St} (i : Ins) (h : step σ i = some σ')
    (Kt : PUnit → sProp 𝕄) :
    iprop(records X Wt K ∗ inv X Wt c σ ∗ (inv X Wt c σ' -∗ Kt ⟨⟩))
      ⊢ wp frame (wpE (defs₀ (F := F)) 𝒱₀ c none) Set.univ (prog (fun d => peer d c) i) Kt := by
  cases i with
  | send d j =>
    show _ ⊢ wp frame (wpE (defs₀ (F := F)) 𝒱₀ c none) Set.univ (sendP (peer d c) d j) Kt
    cases d <;> simp only [step] at h <;> split at h <;> first | contradiction | skip
    all_goals
      rename_i hc
      obtain ⟨rfl, h1, h2, h3⟩ := hc
      cases h
      unfold inv
    · rw [owe_send_false (c := c) (a := σ.aT) (k := 0) h1]
      iintro ⟨HR, ⟨HT, HF, HO, Hrest⟩, Hk⟩
      iapply (send_step X Wt K c (d := false) h1 h2 h3 _ Kt)
      isplitl [HR]; · iexact HR
      isplitl [HF HO]
      · isplitl [HF]; · iexact HF
        iexact HO
      iintro ⟨HF, HO⟩
      iapply Hk
      isplitl [HT]; · iexact HT
      isplitl [HF]; · iexact HF
      isplitl [HO]; · iexact HO
      iexact Hrest
    · rw [owe_send_true (c := c) (b := σ.aF) (k := 0) h1]
      iintro ⟨HR, ⟨HT, HF, HO, Hrest⟩, Hk⟩
      iapply (send_step X Wt K c (d := true) h1 h2 h3 _ Kt)
      isplitl [HR]; · iexact HR
      isplitl [HT HO]
      · isplitl [HT]; · iexact HT
        iexact HO
      iintro ⟨HT, HO⟩
      iapply Hk
      isplitl [HT]; · iexact HT
      isplitl [HF]; · iexact HF
      isplitl [HO]; · iexact HO
      iexact Hrest
  | recv d j =>
    cases d <;> simp only [step] at h <;> split at h <;> first | contradiction | skip
    all_goals
      rename_i hc
      obtain ⟨rfl, h1, h2, h3⟩ := hc
      cases h
      unfold inv
      simp only [h2]
    · iintro ⟨HR, ⟨HT, HF, HO, Hrest⟩, Hk⟩
      iapply (recv_step X Wt K c (d := false) (b := σ.bF) h1 (owe c σ.aT (σ.bF + 1) 0)
        (mayWait_cell (ch := .rcv false σ.bF) h1 c (by simp only [chLv]; omega) (by simp only [chLv]; omega) (by simp only [chLv]; omega)) Kt)
      isplitl [HR]; · iexact HR
      isplitl [HF HO]
      · isplitl [HF]; · iexact HF
        iexact HO
      iintro ⟨HF, HO⟩
      iapply Hk
      isplitl [HT]; · iexact HT
      isplitl [HF]; · iexact HF
      isplitl [HO]; · iexact HO
      iexact Hrest
    · iintro ⟨HR, ⟨HT, HF, HO, Hrest⟩, Hk⟩
      iapply (recv_step X Wt K c (d := true) (b := σ.bT) h1 (owe c (σ.bT + 1) σ.aF 0)
        (mayWait_cell (ch := .rcv true σ.bT) h1 c (by simp only [chLv]; omega) (by simp only [chLv]; omega) (by simp only [chLv]; omega)) Kt)
      isplitl [HR]; · iexact HR
      isplitl [HT HO]
      · isplitl [HT]; · iexact HT
        iexact HO
      iintro ⟨HT, HO⟩
      iapply Hk
      isplitl [HT]; · iexact HT
      isplitl [HF]; · iexact HF
      isplitl [HO]; · iexact HO
      iexact Hrest
  | ack d j =>
    cases d <;> simp only [step] at h <;> split at h <;> first | contradiction | skip
    all_goals
      rename_i hc
      obtain ⟨rfl, h1, h2⟩ := hc
      cases h
      unfold inv
    · iintro ⟨HR, ⟨HT, HF, HO, Hrest⟩, Hk⟩
      iapply (ack_step X Wt K c (d := false) h1 h2 (owe c σ.aT σ.aF 0)
        (mayWait_cell (ch := .snd false σ.eF) (lt_of_lt_of_le h1 h2) c (by simp only [chLv]; omega) (by simp only [chLv]; omega) (by simp only [chLv]; omega)) Kt)
      isplitl [HR]; · iexact HR
      isplitl [HF HO]
      · isplitl [HF]; · iexact HF
        iexact HO
      iintro ⟨HF, HO⟩
      iapply Hk
      isplitl [HT]; · iexact HT
      isplitl [HF]; · iexact HF
      isplitl [HO]; · iexact HO
      iexact Hrest
    · iintro ⟨HR, ⟨HT, HF, HO, Hrest⟩, Hk⟩
      iapply (ack_step X Wt K c (d := true) h1 h2 (owe c σ.aT σ.aF 0)
        (mayWait_cell (ch := .snd true σ.eT) (lt_of_lt_of_le h1 h2) c (by simp only [chLv]; omega) (by simp only [chLv]; omega) (by simp only [chLv]; omega)) Kt)
      isplitl [HR]; · iexact HR
      isplitl [HT HO]
      · isplitl [HT]; · iexact HT
        iexact HO
      iintro ⟨HT, HO⟩
      iapply Hk
      isplitl [HT]; · iexact HT
      isplitl [HF]; · iexact HF
      isplitl [HO]; · iexact HO
      iexact Hrest
  | gemm s =>
    simp only [step] at h
    split at h <;> first | contradiction | skip
    rename_i hc
    cases h
    unfold inv
    show _ ⊢ wp frame (wpE (defs₀ (F := F)) 𝒱₀ c none) Set.univ (gemmP s) Kt
    rcases hc with rfl | hc
    · iintro ⟨-, ⟨HT, HF, HO, Hi, Hw, Hs, Hr⟩, Hk⟩
      iapply (gemm_gen X Wt c 0 fullShare.right.right σ.G Kt)
      isplitl [Hi Hw Hs Hr]
      · isplitl [Hi]; · iexact Hi
        isplitl [Hw]; · iexact Hw
        isplitl [Hs]; · iexact Hs
        iexact Hr
      iintro H
      iapply Hk
      isplitl [HT]; · iexact HT
      isplitl [HF]; · iexact HF
      isplitl [HO]; · iexact HO
      iexact H
    rcases slots_here hc with ⟨i, hi, rfl⟩ | ⟨i, hi, rfl⟩
    · iintro ⟨-, ⟨HT, HF, HO, Hi, Hw, Hs, Hr⟩, Hk⟩
      ihave HT := (chain_slot X c (d := true) hi) $$ HT
      icases HT with ⟨Hq, HT⟩
      iapply (gemm_gen X Wt c (sl true (i + 1)) fullShare.right σ.G Kt)
      isplitl [Hi Hw Hq Hr]
      · isplitl [Hi]; · iexact Hi
        isplitl [Hw]; · iexact Hw
        isplitl [Hq]; · iexact Hq
        iexact Hr
      iintro ⟨Hi, Hw, Hq, Hr⟩
      iapply Hk
      isplitl [HT Hq]; · iapply HT; iexact Hq
      isplitl [HF]; · iexact HF
      isplitl [HO]; · iexact HO
      isplitl [Hi]; · iexact Hi
      isplitl [Hw]; · iexact Hw
      isplitl [Hs]; · iexact Hs
      iexact Hr
    · iintro ⟨-, ⟨HT, HF, HO, Hi, Hw, Hs, Hr⟩, Hk⟩
      ihave HF := (chain_slot X c (d := false) hi) $$ HF
      icases HF with ⟨Hq, HF⟩
      iapply (gemm_gen X Wt c (sl false (i + 1)) fullShare.right σ.G Kt)
      isplitl [Hi Hw Hq Hr]
      · isplitl [Hi]; · iexact Hi
        isplitl [Hw]; · iexact Hw
        isplitl [Hq]; · iexact Hq
        iexact Hr
      iintro ⟨Hi, Hw, Hq, Hr⟩
      iapply Hk
      isplitl [HT]; · iexact HT
      isplitl [HF Hq]; · iapply HF; iexact Hq
      isplitl [HO]; · iexact HO
      isplitl [Hi]; · iexact Hi
      isplitl [Hw]; · iexact Hw
      isplitl [Hs]; · iexact Hs
      iexact Hr

/-- A straight line is sound where the check passes; its copies go to the neighbour. -/
theorem run_sound {σ σ' : St} (l : List Ins) (h : steps σ l = some σ')
    (Kt : PUnit → sProp 𝕄) :
    iprop(records X Wt K ∗ inv X Wt c σ ∗ (inv X Wt c σ' -∗ Kt ⟨⟩))
      ⊢ wp frame (wpE (defs₀ (F := F)) 𝒱₀ c none) Set.univ (run (fun d => peer d c) l) Kt := by
  induction l generalizing σ with
  | nil =>
    cases h
    show _ ⊢ wp frame (wpE (defs₀ (F := F)) 𝒱₀ c none) Set.univ (Prog.ret ⟨⟩) Kt
    rw [wp_ret]
    iintro ⟨-, Hi, Hk⟩
    imodintro
    iapply Hk; iexact Hi
  | cons i l ih =>
    obtain ⟨σ₁, h1, h2⟩ := Option.bind_eq_some_iff.mp h
    show _ ⊢ wp frame (wpE (defs₀ (F := F)) 𝒱₀ c none) Set.univ (prog (fun d => peer d c) i >>= fun _ => run (fun d => peer d c) l) Kt
    rw [wp_bind]
    iintro ⟨#HR, Hi, Hk⟩
    iapply (step_sound X Wt c K i h1 _)
    isplitr; · iexact HR
    isplitl [Hi]; · iexact Hi
    iintro Hi
    iapply (ih h2)
    isplitr; · iexact HR
    isplitl [Hi]; · iexact Hi
    iexact Hk

end Cert.KernelIdeal.Talk
-- ==== Proof.KernelIdealProg.lean ====
/-
  The kernel's body as a preparation, one straight line of ring instructions, five exchanges of maxima, and the final scaling.
-/
module

public import proofs.«01_k».proof.Proof.KernelIdealProto

@[expose] public section
noncomputable section

namespace Cert.KernelIdeal.Talk

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-- What the preparation learns: its device, and its neighbours' words, each checked to name a device. -/
abbrev Pre (F : FTy → Type) [FloatOps F] : Type := Σ' (_ : Dev nD) (v3 : Elt F .i32) (_ : k0_chk1 v3) (v4 : Elt F .i32), k0_chk2 v4

abbrev idsR (s : ℕ) : Rect S32 := Rect.unit (s := S32) ![s % 32] S1.size (ids_inb s)

/-- The preparation: the neighbours, the barrier, the own block stored in slot 0. -/
def headP : TProg F (Pre F) := do
  let d0 : Dev nD ← Prog.lift .deviceId
  let v3 : Elt F .i32 ← smemLoad idsM (idsR 1) numel1_S1 rfl
  have hw1 : k0_chk1 v3 := (← Prog.lift (TpuEff.assume (k0_chk1 v3) (k0_chk1.dec v3))).down
  let v4 : Elt F .i32 ← smemLoad idsM (idsR 31) numel1_S1 rfl
  have hw2 : k0_chk2 v4 := (← Prog.lift (TpuEff.assume (k0_chk2 v4) (k0_chk2.dec v4))).down
  semSignalWord (⟨k0_dev1 v3, k0_dev1_lt v3 hw1⟩ : Dev nD) barS 1#32
  semSignalWord (⟨k0_dev2 v4, k0_dev2_lt v4 hw2⟩ : Dev nD) barS 1#32
  semWaitWord barS 2#32
  let x : Vec F S128x4096 .bf16 ← Prog.lift (.load xM (Rect.unit (s := S128x4096) ![0, 0] S128x4096.size inb_S128x4096_S128x4096_0_0).toLoadRect (View.loadsAt_vmem h_S128x4096))
  let _ : Vec F S1x128x4096 .bf16 ← Prog.lift (.load commM (slotR 0).toLoadRect (View.loadsAt_vmem h_S1x128x4096))
  Prog.lift (.store commM (slotR 0) (k0_pay2 x) Finset.univ (View.stores_vmem h_S1x128x4096 (commM_whole.storeExact_slice rfl _ packedbf16_S32x128x4096_S1x128x4096_0_0_0) (fun _ => rfl)) (.inl rfl))
  pure ⟨d0, v3, hw1, v4, hw2⟩

/-- Round `r` of the gathering: the next left hop, the two blocks that arrived, the right arrival; then the left arrival and the
    next right hop. -/
def ringRound (r : ℕ) : List (List Ins) :=
  [[.send false (r + 1), .gemm (r + 1), .gemm (31 - r), .recv true (r + 1)], [.recv false (r + 1), .send true (r + 2)]]

/-- The gathering phase, in the pieces the program is printed in. -/
def ring : List (List Ins) :=
  [[.send true 0], [.send false 0, .gemm 0, .recv true 0], [.recv false 0, .send true 1]]
    ++ (List.range 13).flatMap ringRound
    ++ [[.send false 14, .gemm 14, .gemm 18, .recv true 14], [.recv false 14, .send true 15, .gemm 15], [.gemm 17, .recv true 15, .gemm 16],
      [.gemm 17, .ack true 0, .ack false 0], [.ack true 1, .ack false 1, .ack true 2, .ack false 2],
      [.ack true 3, .ack false 3, .ack true 4, .ack false 4], [.ack true 5, .ack false 5, .ack true 6],
      [.ack false 6, .ack true 7, .ack false 7, .ack true 8], [.ack false 8, .ack true 9, .ack false 9, .ack true 10],
      [.ack false 10, .ack true 11, .ack false 11, .ack true 12], [.ack false 12, .ack true 13, .ack false 13],
      [.ack true 14, .ack false 14, .ack true 15]]

/-- The pieces one after another. -/
def runs (p : Bool → Dev nD) : List (List Ins) → TProg F PUnit
  | [] => pure ⟨⟩
  | l :: ls => do run p l; runs p ls

theorem seq_eq {p : Bool → Dev nD} {L ls : List (List Ins)} {l : List Ins} {e k : TProg F PUnit} {t : TProg F PUnit}
    (hL : L = l :: ls) (he : e = run p l) (hk : k = (runs p ls >>= fun _ => t)) : (e >>= fun _ => k) = (runs p L >>= fun _ => t) := by
  subst hL he hk
  exact (Prog.bind_assoc _ _ _).symm

theorem bind_pure_eq {α β γ : Type} {e : TProg F β} {a : TProg F α} {g : α → β} {k : β → TProg F γ} {k' : α → TProg F γ}
    (he : e = (a >>= fun v => pure (g v))) (hk : ∀ v, k (g v) = k' v) : (e >>= k) = (a >>= k') := by
  subst he
  refine (Prog.bind_assoc _ _ _).trans (congrArg (fun k => a >>= k) (funext fun v => ?_))
  exact hk v

abbrev oR : Rect S4096x256 := Rect.unit (s := S4096x256) ![0, 0] S4096x256.size inb_S4096x256_S4096x256_0_0
abbrev hbR : Rect S1x1 := Rect.unit (s := S1x1) ![0, 0] S1x1.size inb_S1x1_S1x1_0_0

/-- The own maximum. -/
def maxP : TProg F (F .f32) := do
  let v : Vec F S4096x256 .f32 ← Prog.lift (.load oM oR.toLoadRect (View.loadsAt_vmem h_S4096x256))
  let _ : Vec F S1x1 .f32 ← Prog.lift (.load hbM hbR.toLoadRect (View.loadsAt_vmem h_S1x1))
  Prog.lift (.store hbM hbR (k0_pay37 v) Finset.univ (View.stores_vmem_bits_univ h_S1x1 rfl) (.inl rfl))
  pure (k0_pay36 v)

theorem hbM_whole : (hbM : Memref sig .tc .vmem S1x1 .f32).IsWhole := Memref.isWhole_whole cc0_scratch5

/-- Exchange `k` with the device `p`: what `p` sent. -/
def exchP (p : Dev nD) (k : ℕ) : TProg F (Vec F S1x1x1 .f32) := do
  Prog.lift (.enqueueDma hbM (.remote (Dev.tc p) (hcM k) (.dma (hsS k))) (.dma (hrS k)) hbM_whole.wordExact ((View.wordExact_bits rfl).reshape _ _) ⟨⟨rfl, Or.inl rfl⟩, trivial⟩)
  Prog.lift (.waitDma2 (hsS k) (hcM k) hbM ((View.wordExact_bits rfl).reshape _ _) hbM_whole.wordExact)
  Prog.lift (.waitDma2 (hrS k) hbM (hcM k) hbM_whole.wordExact ((View.wordExact_bits rfl).reshape _ _))
  Prog.lift (.load hiM (hcR k).toLoadRect (View.loadsAt_vmem h_S1x1x1))

/-- A round of the exchange: the greater of the two maxima, stored for the next. -/
def roundP (p : Dev nD) (k : ℕ) (v : F .f32) : TProg F (F .f32) := do
  let u ← exchP p k
  let _ : Vec F S1x1 .f32 ← Prog.lift (.load hbM hbR.toLoadRect (View.loadsAt_vmem h_S1x1))
  Prog.lift (.store hbM hbR (k0_pay39 v u) Finset.univ (View.stores_vmem_bits_univ h_S1x1 rfl) (.inl rfl))
  pure (k0_pay38 v u)

/-- The last exchange, and the scaling by the common maximum. -/
def lastP (p : Dev nD) (v : F .f32) : TProg F PUnit := do
  let u ← exchP p 4
  let o : Vec F S4096x256 .f32 ← Prog.lift (.load oM oR.toLoadRect (View.loadsAt_vmem h_S4096x256))
  let _ : Vec F S4096x256 .f32 ← Prog.lift (.load oM oR.toLoadRect (View.loadsAt_vmem h_S4096x256))
  Prog.lift (.store oM oR (k0_pay1 (k0_pay46 v u) (k0_pay47 v u o)) Finset.univ (View.stores_vmem_bits_univ h_S4096x256 rfl) (.inl rfl))
  pure ⟨⟩

/-- What follows the gathering. -/
def restP (d0 : Dev nD) : TProg F PUnit := do
  let v ← maxP
  let v ← roundP ⟨k0_dev34 d0, k0_dev34_lt _⟩ 0 v
  let v ← roundP ⟨k0_dev35 d0, k0_dev35_lt _⟩ 1 v
  let v ← roundP ⟨k0_dev36 d0, k0_dev36_lt _⟩ 2 v
  let v ← roundP ⟨k0_dev37 d0, k0_dev37_lt _⟩ 3 v
  lastP ⟨k0_dev38 d0, k0_dev38_lt _⟩ v

/-- Where the copies of a direction go. -/
def nb (x : Pre F) (d : Bool) : Dev nD := bif d then ⟨k0_dev2 x.2.2.2.1, k0_dev2_lt _ x.2.2.2.2⟩ else ⟨k0_dev1 x.2.1, k0_dev1_lt _ x.2.2.1⟩

set_option maxRecDepth 65536 in
set_option maxHeartbeats 4000000 in
theorem part1_eq :
    (k0_part1 idsM (Memref.isWhole_whole _) xM (Memref.isWhole_whole _) wM (Memref.isWhole_whole _) oM (Memref.isWhole_whole _) commM (Memref.isWhole_whole _)
      cc0_scratch1 cc0_scratch2 cc0_scratch3 cc0_scratch4 hbM (Memref.isWhole_whole _) hiM (Memref.isWhole_whole _) cc0_scratch7 cc0_scratch8)
      = (headP (F := F) >>= fun x => run (nb x) [.send true 0] >>= fun _ =>
          pure ⟨x.1, Scalar.remsi (Scalar.divsi (Dev.word x.1) 1#32) 32#32, x.2.1, x.2.2.1, x.2.2.2.1, x.2.2.2.2⟩) := by
  rw [k0_part1_eq_skeleton]
  rfl

set_option maxRecDepth 65536 in
set_option maxHeartbeats 4000000 in
theorem part41_eq (p : Bool → Dev nD) (v2 : BitVec 32) :
    (k0_part41 idsM (Memref.isWhole_whole _) xM (Memref.isWhole_whole _) wM (Memref.isWhole_whole _) oM (Memref.isWhole_whole _) commM (Memref.isWhole_whole _)
      cc0_scratch1 cc0_scratch2 cc0_scratch3 cc0_scratch4 hbM (Memref.isWhole_whole _) hiM (Memref.isWhole_whole _) cc0_scratch7 cc0_scratch8 v2)
      = (run (F := F) p [.ack true 14, .ack false 14, .ack true 15] >>= fun _ => maxP >>= fun v =>
          pure ⟨v, Scalar.xori v2 1#32, Scalar.muli (Scalar.xori v2 1#32) 1#32, 0#32⟩) := by
  rw [k0_part41_eq_skeleton]
  unfold k0_part41_skel
  simp only [run, prog, ackP, maxP, Prog.lift, Prog.bind_op, Prog.bind_ret, Prog.pure_eq_ret, Prog.bind_assoc]
  rfl

set_option maxRecDepth 65536 in
set_option maxHeartbeats 4000000 in
/-- The kernel's body is the preparation, the gathering and what follows. -/
theorem body_eq :
    (cc0_body idsM (Memref.isWhole_whole _) xM (Memref.isWhole_whole _) wM (Memref.isWhole_whole _) oM (Memref.isWhole_whole _) commM (Memref.isWhole_whole _)
      cc0_scratch1 cc0_scratch2 cc0_scratch3 cc0_scratch4 hbM (Memref.isWhole_whole _) hiM (Memref.isWhole_whole _) cc0_scratch7 cc0_scratch8 : TProg F PUnit)
      = (headP >>= fun x => runs (nb x) ring >>= fun _ => restP x.1) := by
  rw [cc0_body_eq_skeleton]
  unfold cc0_body_skel
  rw [part1_eq]
  refine (Prog.bind_assoc _ _ _).trans (congrArg (fun k => headP >>= k) (funext fun x => ?_))
  refine (Prog.bind_assoc _ _ _).trans ?_
  refine seq_eq (l := [.send true 0]) rfl rfl ?_
  iterate 39
    refine seq_eq rfl ?_ ?_
    · rfl
  rw [part41_eq (nb x)]
  refine (Prog.bind_assoc _ _ _).trans ?_
  refine seq_eq (ls := []) rfl rfl ?_
  refine Eq.trans ?_ (show restP x.1 = _ from rfl)
  unfold restP
  generalize Scalar.remsi (Scalar.divsi (Dev.word x.1) 1#32) 32#32 = v2
  refine bind_pure_eq rfl fun v => ?_
  refine bind_pure_eq (g := fun v => ⟨v, Scalar.xori v2 2#32, Scalar.muli (Scalar.xori v2 2#32) 1#32⟩) (by rw [k0_part42_eq_skeleton]; rfl) fun v => ?_
  refine bind_pure_eq (g := fun v => ⟨v, Scalar.xori v2 4#32, 1#32⟩) (by rw [k0_part43_eq_skeleton]; rfl) fun v => ?_
  refine bind_pure_eq (g := fun v => ⟨v, Scalar.xori v2 8#32⟩) (by rw [k0_part44_eq_skeleton]; rfl) fun v => ?_
  refine bind_pure_eq (g := fun v => ⟨v, Scalar.xori v2 16#32⟩) (by rw [k0_part45_eq_skeleton]; rfl) fun v => ?_
  rw [k0_part46_eq_skeleton]
  rfl

end Cert.KernelIdeal.Talk
-- ==== Proof.KernelIdealHead.lean ====
/-
  The preparation: from what a device starts with, through the barrier, to the first state of the gathering phase.
-/
module

public import proofs.«01_k».proof.Proof.KernelIdealState
public import proofs.«01_k».proof.Proof.KernelIdealProg

@[expose] public section
noncomputable section

namespace Cert.KernelIdeal.Talk

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## The buffer of blocks, slot by slot -/

theorem ring_cover : Finset.range 32 = insert 0 (((Finset.range (hops true)).image fun i => sl true (i + 1)) ∪ ((Finset.range (hops false)).image fun i => sl false (i + 1))) := by
  decide +kernel
theorem ring_disj : Disjoint ((Finset.range (hops true)).image fun i => sl true (i + 1)) ((Finset.range (hops false)).image fun i => sl false (i + 1)) := by
  decide +kernel
theorem ring_zero : (0 : ℕ) ∉ ((Finset.range (hops true)).image fun i => sl true (i + 1)) ∪ ((Finset.range (hops false)).image fun i => sl false (i + 1)) := by
  decide +kernel
theorem ring_inj (d : Bool) : Set.InjOn (fun i => sl d (i + 1)) (Finset.range (hops d) : Set ℕ) := by
  intro i hi j hj h
  have hi : i < hops d := Finset.mem_range.mp hi
  have hj : j < hops d := Finset.mem_range.mp hj
  cases d <;> simp only [sl, hops] at * <;> simp at * <;> omega

/-- The slots are slot 0 and, direction by direction, those the hops fill. -/
theorem ring_split {M : Type} [URA M] (Φ : ℕ → sProp M) : bigSep (Finset.range 32) Φ
    = iprop(Φ 0 ∗ bigSep (Finset.range (hops true)) (fun i => Φ (sl true (i + 1))) ∗ bigSep (Finset.range (hops false)) (fun i => Φ (sl false (i + 1)))) := by
  rw [ring_cover, bigSep_insert ring_zero, bigSep_union ring_disj, bigSep_image_of_injOn (ring_inj true), bigSep_image_of_injOn (ring_inj false)]
  rfl

attribute [local irreducible] sl peer idOf pos cyc pt travels

theorem sl_zero (d : Bool) : sl d 0 = 0 := by unfold sl; cases d <;> rfl

variable (X : Dev nD → Vec F S128x4096 .bf16) (Wt : Dev nD → Vec F S4096x256 .bf16) (K : GSem nD τ sig → ℕ) (c : Dev nD)

theorem slots_cover : (Finset.range 32).biUnion (fun k => (slotM k).view.set) = (Finset.univ : Finset S32x128x4096.Idx) := by
  ext (i : S32x128x4096.Idx)
  have hi : (i 0).val < 32 := (i 0).isLt
  exact ⟨fun _ => Finset.mem_univ _, fun _ => Finset.mem_biUnion.mpr ⟨(i 0).val, Finset.mem_range.mpr hi, slot_mem.mpr (Nat.mod_eq_of_lt hi).symm⟩⟩
theorem slots_disj : ∀ k ∈ Finset.range 32, ∀ k' ∈ Finset.range 32, k ≠ k' → Disjoint (slotM k).view.set (slotM k').view.set := by
  intro k hk k' hk' hne
  refine Finset.disjoint_left.mpr fun (i : S32x128x4096.Idx) h h' => hne ?_
  have := (slot_mem.mp h).symm.trans (slot_mem.mp h')
  rwa [Nat.mod_eq_of_lt (Finset.mem_range.mp hk), Nat.mod_eq_of_lt (Finset.mem_range.mp hk')] at this

abbrev commPts (f : (cc0_scratch0 : Ref sig .tc).ty.Contents (Elt F)) : sProp 𝕄 := ((c : Thread nD τ).loc cc0_scratch0) ↦{fullShare} f

/-- The whole buffer is its slots. -/
theorem comm_split (f : (cc0_scratch0 : Ref sig .tc).ty.Contents (Elt F)) : commPts c f
    = iprop(slotPts c 0 fullShare f ∗ bigSep (Finset.range (hops true)) (fun i => slotPts c (sl true (i + 1)) fullShare f)
      ∗ bigSep (Finset.range (hops false)) (fun i => slotPts c (sl false (i + 1)) fullShare f)) := by
  rw [← ring_split (fun k => slotPts c k fullShare f)]
  have h := pointsTo_biUnion (Ix := Unit) (Name := ℕ) (U := UU) (Lvl := ℕ) (ℓ := (c : Thread nD τ).loc cc0_scratch0) (q := fullShare) (f := f) (Finset.range 32) (fun k => (slotM k).view.set) slots_disj
  rw [slots_cover] at h
  exact h

/-! ## What a device starts with -/

/-- What one hop takes from the start: its duties, the waits it makes, the own cells it has begun. -/
def hop0 (d : Bool) (i : ℕ) : sProp 𝕄 :=
  iprop((dutyTok ER (cell (.snd d i) c) 0 true ∗ reached ER (cell (.snd d i) c) 0 ∗ dutyTok ER (cell (.rcv d i) (peer d c)) 0 true)
    ∗ waitRes d c i ∗ atPos ER (cell (.snd d i) c) 0 ∅ 0)
/-- The own arrival cells have begun. -/
def begun (d : Bool) : sProp 𝕄 := bigSep (Finset.range (hops d)) fun i => reached ER (cell (.rcv d i) c) 0
/-- What direction `d` takes from the start. -/
def dir0 (d : Bool) : sProp 𝕄 := iprop(bigSep (Finset.range (hops d)) (hop0 c d) ∗ begun c d)
/-- What the barrier takes: the two signals, the wait. -/
def bar0 : sProp 𝕄 :=
  iprop(dutyTok ER (cell .bar (peer false c)) 0 true ∗ dutyTok ER (cell .bar (peer true c)) 0 false
    ∗ atPos ER (cell .bar c) 0 ∅ 0 ∗ cred (tallyAt (cell .bar c) () 2))
/-- What a device owes at the start. -/
def owe0 : CellTallies nD τ sig Unit :=
  (owe c 0 0 0 + tallyAt (cell .bar (peer true c)) () 1) + tallyAt (cell .bar (peer false c)) () 1

/-- The own slots, paid to a neighbour's barrier. -/
theorem pay_bar (d : Bool) (f : (cc0_scratch0 : Ref sig .tc).ty.Contents (Elt F)) :
    iprop(bigSep (Finset.range (hops d)) (fun i => slotPts c (sl d (i + 1)) fullShare f) ∗ begun c d)
      ⊢ (rd X Wt).payload (cell .bar (peer (!d) c)) 0 d := by
  rw [payload_cell X Wt (peer (!d) c) (ch := .bar) trivial]
  simp only [chPay]
  unfold barPay begun
  rw [peer_back, ← bigSep_sep']
  have h : ∀ i, iprop(slotPts c (sl d (i + 1)) fullShare f ∗ reached ER (cell (.rcv d i) c) 0)
      ⊢ iprop((∃ f, slotPts c (sl d (i + 1)) fullShare f) ∗ reached ER (cell (.rcv d i) c) 0) := by
    intro i
    iintro ⟨H, Hr⟩
    isplitl [H]; · iexists f; iexact H
    iexact Hr
  exact bigSep_mono fun i _ => h i

/-- All rights of a device start travelling, each in one direction. -/
theorem rights_start : bigSep (Finset.range 5) (right (F := F) c) ⊢ iprop(rights true 0 c ∗ rights false 0 c) := by
  unfold rights
  rw [← bigSep_sep']
  refine bigSep_mono fun k hk => ?_
  have h := travels_start c (Finset.mem_range.mp hk)
  by_cases h1 : travels true 0 c k
  · rw [if_pos h1, if_neg (fun h2 => h.mp h2 h1)]
    exact (sep_emp (PROP := sProp 𝕄)).2
  · rw [if_neg h1, if_pos (h.mpr h1)]
    exact (emp_sep (PROP := sProp 𝕄)).2

/-- A direction, ready for its first hop. -/
theorem chain_start (d : Bool) :
    iprop(bigSep (Finset.range (hops d)) (hop0 c d) ∗ barPay c d ∗ slotPts c 0 (shr d 0) (commF X c) ∗ rights d 0 c) ⊢ chain X d c 0 0 0 := by
  have h1 : iprop(bigSep (Finset.range (hops d)) (hop0 (F := F) c d) ∗ barPay c d)
      ⊢ iprop(bigSep (Finset.range (hops d)) (hopRes d c) ∗ bigSep (Finset.range (hops d)) (waitRes d c)
        ∗ bigSep (Finset.range (hops d)) (fun i => atPos ER (cell (.snd d i) c) 0 ∅ 0)) := by
    unfold barPay
    rw [← bigSep_sep', ← bigSep_sep', ← bigSep_sep']
    have h : ∀ i, iprop(hop0 (F := F) c d i ∗ (∃ f, slotPts (peer d c) (sl d (i + 1)) fullShare f) ∗ reached ER (cell (.rcv d i) (peer d c)) 0)
        ⊢ iprop(hopRes d c i ∗ waitRes d c i ∗ atPos ER (cell (.snd d i) c) 0 ∅ 0) := by
      intro i
      unfold hop0 hopRes
      iintro ⟨⟨⟨H1, H2, H3⟩, H4, H5⟩, H6, H7⟩
      isplitr [H4 H5]
      · isplitl [H1]; · iexact H1
        isplitl [H2]; · iexact H2
        isplitl [H3]; · iexact H3
        isplitl [H7]; · iexact H7
        iexact H6
      isplitl [H4]; · iexact H4
      iexact H5
    exact bigSep_mono fun i _ => h i
  unfold chain
  rw [← Finset.range_eq_Ico, Finset.Ico_self, Finset.range_zero, show Finset.Ico 0 (0 + 1) = {0} from rfl, bigSep_empty, bigSep_empty, bigSep_empty, bigSep_singleton]
  unfold stock
  rw [sl_zero, idOf_zero]
  iintro ⟨H1, H2, H3, H4⟩
  ihave H := h1 $$ [H1 H2]
  · isplitl [H1]; · iexact H1
    iexact H2
  icases H with ⟨Ha, Hb, Hc⟩
  isplitl [Ha]; · iexact Ha
  isplitl [Hb]; · iexact Hb
  isplitl [Hc]; · iexact Hc
  isplitr; · iempintro
  isplitl [H3 H4]
  · isplitl [H3]; · iexact H3
    iexact H4
  isplitr <;> iempintro

theorem dev1_word : ∀ o : Fin 32, k0_dev1 (word o) = o.val := by decide +kernel
theorem dev2_word : ∀ o : Fin 32, k0_dev2 (word o) = o.val := by decide +kernel
theorem chk1_word : ∀ o : Fin 32, k0_chk1 (word o) := by decide +kernel
theorem chk2_word : ∀ o : Fin 32, k0_chk2 (word o) := by decide +kernel

/-- What the preparation finds on device `c`. -/
def pre : Pre F := ⟨c, word (idOf c 1), chk1_word _, word (idOf c 31), chk2_word _⟩

theorem dev1_eq : (⟨k0_dev1 (word (idOf c 1)), k0_dev1_lt _ (chk1_word _)⟩ : Dev nD) = peer false c := by
  unfold peer; exact Fin.ext (dev1_word (idOf c 1))
theorem dev2_eq : (⟨k0_dev2 (word (idOf c 31)), k0_dev2_lt _ (chk2_word _)⟩ : Dev nD) = peer true c := by
  unfold peer; exact Fin.ext (dev2_word (idOf c 31))
theorem nb_pre : nb (pre (F := F) c) = fun d => peer d c := by
  funext d
  cases d
  · exact dev1_eq c
  · exact dev2_eq c

theorem x_load (x : Vec F S128x4096 .bf16) :
    (xM : Memref sig .tc .vmem S128x4096 .bf16).view.readAt (Elt F) (Rect.unit (s := S128x4096) ![0, 0] S128x4096.size inb_S128x4096_S128x4096_0_0).toLoadRect x = x :=
  Memref.readAt_unit_zero (Elt F) cc0_stg1_0 (by funext a; fin_cases a <;> rfl) _ x

theorem slot_acc : ((commM : Memref sig .tc .vmem S32x128x4096 .bf16).access (slotR 0)).setOn Finset.univ ⊆ (slotM 0).view.set := by
  rw [slot_set]
  exact Finset.Subset.refl _

/-- Storing a device's own block in slot 0. -/
theorem own_tail (Kt : Pre F → sProp 𝕄) (f : (cc0_scratch0 : Ref sig .tc).ty.Contents (Elt F)) :
    iprop(slotPts c 0 fullShare f ∗ (slotPts c 0 fullShare (commF X c) -∗ Kt (pre c)))
      ⊢ wp frame (wpE (defs₀ (F := F)) 𝒱₀ c none) Set.univ ((do
          let _ : Vec F S1x128x4096 .bf16 ← Prog.lift (.load commM (slotR 0).toLoadRect (View.loadsAt_vmem h_S1x128x4096))
          Prog.lift (.store commM (slotR 0) (k0_pay2 (X c)) Finset.univ (View.stores_vmem h_S1x128x4096 (commM_whole.storeExact_slice rfl _ packedbf16_S32x128x4096_S1x128x4096_0_0_0) (fun _ => rfl)) (.inl rfl))
          pure (pre c)) : TProg F (Pre F)) Kt := by
  have hS := slot_sub 0
  have hA := slot_acc
  have hE := slot_stored X c fullShare f
  rw [show slotPts c 0 fullShare f = ((commM : Memref sig .tc .vmem S32x128x4096 .bf16).view.loc (c : Thread nD τ) ↦[(slotM 0).view.set]{fullShare} f) from rfl]
  generalize slotPts c 0 fullShare (commF X c) = P at hE ⊢
  have hE' : (((commM : Memref sig .tc .vmem S32x128x4096 .bf16).view.loc (c : Thread nD τ)) ↦[(slotM 0).view.set]{fullShare} (((commM : Memref sig .tc .vmem S32x128x4096 .bf16).access (slotR 0)).write (Elt F) f (k0_pay2 (X c)) Finset.univ) : sProp 𝕄) ⊢ P := Entails.of_eq hE
  clear hE
  generalize (slotM 0).view.set = S at hS hA hE' ⊢
  simp only [Prog.lift, Prog.bind_op, Prog.bind_ret, Prog.pure_eq_ret]
  iintro ⟨Hs, Hk⟩
  iapply (wp_load 𝒱₀ (c : Thread nD τ) none Set.univ (m := commM) (r := (slotR 0).toLoadRect) hS) $$ Hs; iintro Hs
  iapply (wp_store 𝒱₀ (c : Thread nD τ) none Set.univ (m := commM) (r := slotR 0) (Mk := Finset.univ) hA) $$ Hs; iintro Hs
  rw [wp_ret]; imodintro
  iapply Hk
  iapply hE'
  iexact Hs

/-- What the preparation takes of the state outside the directions. -/
def start : sProp 𝕄 :=
  iprop(bar0 c ∗ (dir0 c true ∗ dir0 c false) ∗ bigSep (Finset.range 5) (right c) ∗ (∃ f, commPts c f)
    ∗ idsPts c ∗ xPts c (X c) ∗ wPts c (Wt c) ∗ (∃ f, oPts c f) ∗ ∃ W, owes (c : Thread nD τ) (owe0 c) W)

/-- The first state of the gathering. -/
def σ₀ : St := ⟨0, 0, 0, 0, 0, 0, []⟩

theorem bar_duty (p : Dev nD) (b : Bool) : b ∈ (rd X Wt).duties ((p : Thread nD τ), .reg barS) 0 := by
  show b ∈ (rd X Wt).duties (cell .bar p) 0
  rw [duties_cell X Wt p (ch := .bar) trivial]
  exact Finset.mem_univ _

/-- The preparation is sound: from the start to the first state of the gathering, the barrier's counter back at zero. -/
theorem head_sound (Kt : Pre F → sProp 𝕄) :
    iprop(records X Wt K ∗ start X Wt c ∗ ((inv X Wt c σ₀ ∗ xPts c (X c) ∗ semVal (cell .bar c) 0) -∗ Kt (pre c)))
      ⊢ wp frame (wpE (defs₀ (F := F)) 𝒱₀ c none) Set.univ headP Kt := by
  have hm : records X Wt K ⊢ MayWait (c : Thread nD τ) (semOf .bar) () (owe c 0 0 0) :=
    Idealize.SL.BI.Entails.trans (@rec_lev F _ X Wt K) (mayWait_cell (ch := .bar) trivial c (.inl (by decide)) (.inl (by decide)) (by decide))
  have hp1 : ∀ f, _ ⊢ (rd X Wt).payload ((peer false c : Thread nD τ), .reg barS) 0 true := fun f => pay_bar X Wt c true f
  have hp2 : ∀ f, _ ⊢ (rd X Wt).payload ((peer true c : Thread nD τ), .reg barS) 0 false := fun f => pay_bar X Wt c false f
  have hrest : bigSep ((rd X Wt).duties ((c : Thread nD τ), .reg barS) 0 \ ∅) (fun b => (rd X Wt).payload ((c : Thread nD τ), .reg barS) 0 b) = _ := rest_bar X Wt c
  have hclose : iprop(cellInv ER (rd X Wt) (K (cell .bar c)) (cell .bar c) ∗ atPos ER ((c : Thread nD τ), .reg barS) (0 + 1) ∅ 0) ⊢ _ := close_cell X Wt (K (cell .bar c)) (cell .bar c)
  unfold start bar0 dir0 headP
  simp only [comm_split]
  simp only [semSignalWord, semWaitWord, smemLoad, smemLoadElt, Prog.lift, Prog.bind_op, Prog.bind_ret, Prog.pure_eq_ret, Prog.bind_assoc, wp_deviceId]
  iintro ⟨#HR, ⟨⟨Ht1, Ht2, Hat, Hcr⟩, ⟨⟨HhT, HbT⟩, HhF, HbF⟩, Hrt, ⟨%f, H0, HsT, HsF⟩, Hi, Hx, Hw, Ho, ⟨%W, HO⟩⟩, Hk⟩
  iapply (wp_load_rect 𝒱₀ (c : Thread nD τ) none Set.univ (m := idsM) (r := idsR 1) (Finset.subset_univ _)) $$ Hi; iintro Hi
  rw [ids_read]
  simp only [wp_assume_of _ _ _ _ (d := k0_chk1.dec _) (chk1_word _)]
  iapply (wp_load_rect 𝒱₀ (c : Thread nD τ) none Set.univ (m := idsM) (r := idsR 31) (Finset.subset_univ _)) $$ Hi; iintro Hi
  rw [ids_read]
  simp only [wp_assume_of _ _ _ _ (d := k0_chk2.dec _) (chk2_word _)]
  simp only [dev1_eq, dev2_eq]
  ihave HP1 := (hp1 f) $$ [HsT HbT]
  · isplitl [HsT]; · iexact HsT
    iexact HbT
  ihave HP2 := (hp2 f) $$ [HsF HbF]
  · isplitl [HsF]; · iexact HsF
    iexact HbF
  ihave #HI1 := (rec_inv X Wt K (ch := .bar) trivial (peer false c)) $$ HR
  ihave #HI2 := (rec_inv X Wt K (ch := .bar) trivial (peer true c)) $$ HR
  ihave #HI3 := (rec_inv X Wt K (ch := .bar) trivial c) $$ HR
  ihave #Hr1 := (rec_bar X Wt K (peer false c)) $$ HR
  ihave #Hr2 := (rec_bar X Wt K (peer true c)) $$ HR
  iapply (Rounds.wp_signal 𝒱₀ ER (rd X Wt) (c : Thread nD τ) none (dst := (peer false c : Thread nD τ)) (sem := barS) (r := 0) (d := true) (κ := K (cell .bar (peer false c)))
      (bar_duty X Wt (peer false c) true) (amount_cell X Wt (peer false c) (ch := .bar) trivial 0 true) ()
      (owe c 0 0 0 + tallyAt (cell .bar (peer true c)) () 1) rfl (W := W)) $$ [HO Ht1 HP1]
  · isplitr; · iexact HI1
    isplitl [HO]; · iexact HO
    isplitl [Ht1]; · iexact Ht1
    isplitl [HP1]; · iexact HP1
    iexact Hr1
  iintro HO
  iapply (Rounds.wp_signal 𝒱₀ ER (rd X Wt) (c : Thread nD τ) none (dst := (peer true c : Thread nD τ)) (sem := barS) (r := 0) (d := false) (κ := K (cell .bar (peer true c)))
      (bar_duty X Wt (peer true c) false) (amount_cell X Wt (peer true c) (ch := .bar) trivial 0 false) ()
      (owe c 0 0 0) rfl (W := W)) $$ [HO Ht2 HP2]
  · isplitr; · iexact HI2
    isplitl [HO]; · iexact HO
    isplitl [Ht2]; · iexact Ht2
    isplitl [HP2]; · iexact HP2
    iexact Hr2
  iintro HO
  iapply (Rounds.wp_wait_rest_token 𝒱₀ ER (rd X Wt) (c : Thread nD τ) none (κ := K (cell .bar c))
      (wpE_semWait_eq 𝒱₀ (c : Thread nD τ) none Set.univ) (Set.mem_univ _) () (O := owe c 0 0 0) (W := W) (R := 0) (m := 0) (T := ∅)
      ((Nat.zero_add _).trans (expect_bar X Wt c).symm)) $$ [Hcr HO Hat]
  · isplitr; · iexact HI3
    isplitl [Hcr]; · iexact Hcr
    isplitl [HO]; · iexact HO
    isplitr; · iapply hm; iexact HR
    iexact Hat
  iintro ⟨HO, Hat, -, Hpay⟩
  ihave Hpay := (Entails.of_eq hrest) $$ Hpay
  icases Hpay with ⟨HpT, HpF⟩
  imod hclose $$ [Hat] with Hsv
  · isplitr; · iexact HI3
    iexact Hat
  iapply (wp_load 𝒱₀ (c : Thread nD τ) none Set.univ (m := xM) (Finset.subset_univ _)) $$ Hx; iintro Hx
  rw [x_load]
  iapply (own_tail X c _ f)
  isplitl [H0]; · iexact H0
  iintro H0
  ihave H0 := (pointsTo_share (PosShare.mem_left_op_right fullShare)).1 $$ H0
  icases H0 with ⟨Ha, Hb⟩
  ihave Hb := (pointsTo_share (PosShare.mem_left_op_right fullShare.right)).1 $$ Hb
  icases Hb with ⟨Hb, Hc⟩
  ihave Hrt := (rights_start c) $$ Hrt
  icases Hrt with ⟨HrT, HrF⟩
  iapply Hk
  isplitr [Hx Hsv]
  · unfold inv σ₀
    isplitl [HhT HpT Ha HrT]
    · iapply (chain_start X c true)
      isplitl [HhT]; · iexact HhT
      isplitl [HpT]; · iexact HpT
      isplitl [Ha]; · iexact Ha
      iexact HrT
    isplitl [HhF HpF Hb HrF]
    · iapply (chain_start X c false)
      isplitl [HhF]; · iexact HhF
      isplitl [HpF]; · iexact HpF
      isplitl [Hb]; · iexact Hb
      iexact HrF
    isplitl [HO]; · iexists _; iexact HO
    isplitl [Hi]; · iexact Hi
    isplitl [Hw]; · iexact Hw
    isplitl [Hc]; · iexact Hc
    unfold outI
    icases Ho with ⟨%g, Ho⟩
    iexists g
    isplitl [Ho]; · iexact Ho
    ipureintro
    intro i hi
    obtain ⟨s, hs, -⟩ := hi
    exact absurd hs List.not_mem_nil
  isplitl [Hx]; · iexact Hx
  iexact Hsv

end Cert.KernelIdeal.Talk
-- ==== Proof.KernelIdealTail.lean ====
/-
  The exchange of the maxima and the scaling: five rounds, each with the device whose number differs in one bit.
-/
module

public import proofs.«01_k».proof.Proof.KernelIdealHead

@[expose] public section
noncomputable section

namespace Cert.KernelIdeal.Talk

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

attribute [local irreducible] sl peer idOf pos cyc travels

variable (X : Dev nD → Vec F S128x4096 .bf16) (Wt : Dev nD → Vec F S4096x256 .bf16) (K : GSem nD τ sig → ℕ) (c : Dev nD)

/-- The buffer of received maxima once every round is done. -/
def hcF (c : Dev nD) : (cc0_scratch6 : Ref sig .tc).ty.Contents (Elt F) :=
  fun (i : S5x1x1.Idx) => cur X Wt (i 0).val (pt c (i 0).val)

theorem hcR_mem {k : ℕ} {i : S5x1x1.Idx} : i ∈ (hcR k).set ↔ (i 0).val = k % 5 := by
  rw [Rect.mem_set_unit]
  constructor
  · intro h
    have h1 : k % 5 ≤ (i 0).val ∧ (i 0).val < k % 5 + 1 := h 0
    omega
  · intro h a
    match a with
    | ⟨0, _⟩ => exact (show k % 5 ≤ (i 0).val ∧ (i 0).val < k % 5 + 1 by omega)
    | ⟨1, _⟩ => exact (show 0 ≤ (i 1).val ∧ (i 1).val < 0 + 1 from ⟨Nat.zero_le _, by have h : (i 1).val < 1 := (i 1).isLt; omega⟩)
    | ⟨2, _⟩ => exact (show 0 ≤ (i 2).val ∧ (i 2).val < 0 + 1 from ⟨Nat.zero_le _, by have h : (i 2).val < 1 := (i 2).isLt; omega⟩)
theorem hc_mem {k : ℕ} {i : S5x1x1.Idx} : i ∈ (hcM k).view.set ↔ (i 0).val = k % 5 := by
  rw [hc_set, View.set_slice, ← hcR_mem]
  exact ⟨fun h => by obtain ⟨x, hx, rfl⟩ := Finset.mem_map.mp h; exact hx, fun h => Finset.mem_map.mpr ⟨i, h, rfl⟩⟩

theorem hc_cover : (Finset.range 5).biUnion (fun k => (hcM k).view.set) = (Finset.univ : Finset S5x1x1.Idx) := by
  ext (i : S5x1x1.Idx)
  have hi : (i 0).val < 5 := (i 0).isLt
  exact ⟨fun _ => Finset.mem_univ _, fun _ => Finset.mem_biUnion.mpr ⟨(i 0).val, Finset.mem_range.mpr hi, hc_mem.mpr (Nat.mod_eq_of_lt hi).symm⟩⟩
theorem hc_disj : ∀ k ∈ Finset.range 5, ∀ k' ∈ Finset.range 5, k ≠ k' → Disjoint (hcM k).view.set (hcM k').view.set := by
  intro k hk k' hk' hne
  refine Finset.disjoint_left.mpr fun (i : S5x1x1.Idx) h h' => hne ?_
  have := (hc_mem.mp h).symm.trans (hc_mem.mp h')
  rwa [Nat.mod_eq_of_lt (Finset.mem_range.mp hk), Nat.mod_eq_of_lt (Finset.mem_range.mp hk')] at this

abbrev hiPts (f : (cc0_scratch6 : Ref sig .tc).ty.Contents (Elt F)) : sProp 𝕄 := ((c : Thread nD τ).loc cc0_scratch6) ↦{fullShare} f

/-- The buffer of received maxima is its cells. -/
theorem hc_split (f : (cc0_scratch6 : Ref sig .tc).ty.Contents (Elt F)) : hiPts c f = bigSep (Finset.range 5) fun k => hcPts c k f := by
  have h := pointsTo_biUnion (Ix := Unit) (Name := ℕ) (U := UU) (Lvl := ℕ) (ℓ := (c : Thread nD τ).loc cc0_scratch6) (q := fullShare) (f := f) (Finset.range 5) (fun k => (hcM k).view.set) hc_disj
  rw [hc_cover] at h
  exact h

/-- A cell that has received its round's maximum. -/
theorem hc_at {k : ℕ} (hk : k < 5) : hcPts c k (fun _ => cur X Wt k (pt c k)) = hcPts c k (hcF X Wt c) :=
  pointsTo_congr fun (i : S5x1x1.Idx) hi => by
    have h : (i 0).val = k := (hc_mem.mp hi).trans (Nat.mod_eq_of_lt hk)
    show _ = cur X Wt (i 0).val (pt c (i 0).val)
    rw [h]

abbrev hbWhole (f : (cc0_scratch5 : Ref sig .tc).ty.Contents (Elt F)) : sProp 𝕄 := ((c : Thread nD τ).loc cc0_scratch5) ↦{fullShare} f
theorem hb_whole (f : (cc0_scratch5 : Ref sig .tc).ty.Contents (Elt F)) : hbPts c f = hbWhole c f := by
  have h : (hbM : Memref sig .tc .vmem S1x1 .f32).view.set = Finset.univ := View.set_whole _
  unfold hbPts
  rw [h]

/-! ## One exchange -/

/-- What exchange `k` takes from the start. -/
def exRes (k : ℕ) : sProp 𝕄 :=
  iprop(dutyTok ER (cell (.hs k) c) 0 true ∗ reached ER (cell (.hs k) c) 0 ∗ dutyTok ER (cell (.hr k) (pt c k)) 0 true
    ∗ atPos ER (cell (.hs k) c) 0 ∅ 0 ∗ atPos ER (cell (.hr k) c) 0 ∅ 0 ∗ cred (tallyAt (cell (.hr k) c) () Nh))

theorem owe_exch {k : ℕ} (hk : k < 5) : owe c 16 15 k = owe c 16 15 (k + 1) + tallyAt (cell (.hr k) (pt c k)) () Nh := by
  unfold owe
  rw [show oweH c k = tallyAt (cell (.hr k) (pt c k)) () Nh + oweH c (k + 1) from sum_head hk _]
  ac_rfl
theorem owe_end : owe c 16 15 5 = 0 := by
  unfold owe oweD oweH
  rw [show hops true = 16 from rfl, show hops false = 15 from rfl, Finset.Ico_self, Finset.Ico_self, Finset.Ico_self]
  simp only [Finset.sum_empty, add_zero]

theorem hs_duty {k : ℕ} (hk : k < 5) : true ∈ (rd X Wt).duties ((c : Thread nD τ), .dma (hsS k)) 0 := duty_one X Wt c (ch := .hs k) hk rfl
theorem hr_duty {k : ℕ} (hk : k < 5) (p : Dev nD) : true ∈ (rd X Wt).duties ((p : Thread nD τ), .dma (hrS k)) 0 := duty_one X Wt p (ch := .hr k) hk rfl
theorem hs_pay {k : ℕ} (hk : k < 5) : hbPts c (fun _ => cur X Wt k c) ⊢ (rd X Wt).payload ((c : Thread nD τ), .dma (hsS k)) 0 true :=
  Entails.of_eq (payload_cell X Wt c (ch := .hs k) hk 0 true).symm
theorem hr_pay {k : ℕ} (hk : k < 5) (fd : (cc0_scratch6 : Ref sig .tc).ty.Contents (Elt F)) :
    (((hcM k).view.loc (pt c k : Thread nD τ)) ↦[(hcM k).view.set]{fullShare} ((hcM k).view.write (Elt F) fd
        ((hbM : Memref sig .tc .vmem S1x1 .f32).view.read (Elt F) (fun _ => cur X Wt k c)) Finset.univ) : sProp 𝕄)
      ⊢ (rd X Wt).payload ((pt c k : Thread nD τ), .dma (hrS k)) 0 true := by
  refine Entails.of_eq ((hc_landed (pt c k) k (cur X Wt k c) fd).trans ?_)
  refine Eq.trans ?_ (payload_cell X Wt (pt c k) (ch := .hr k) hk 0 true).symm
  simp only [chPay, hrPay]
  rw [pt_pt hk]

/-- One wait of the exchange: the payload, and the counter back at zero. -/
theorem wait_h (a b : Memref sig .tc .vmem S1x1 .f32) (ha : a.view.WordExact) (hb : b.view.WordExact) (hab : b.view.dmaCredit = Nh)
    (ch : Ch) (s : DmaSem sig) (hs : semOf ch = .dma s) (h : ch.ok) (h1 : chDuties ch = {true}) (hN : chAmount ch = Nh) (κ : ℕ)
    (O : CellTallies nD τ sig Unit) (W : Waits sig Unit) {α : Type} (k : PUnit → TProg F α) (Kt : α → sProp 𝕄) :
    iprop((cellInv ER (rd X Wt) κ (cell ch c) ∗ cred (tallyAt (cell ch c) () Nh) ∗ owes (c : Thread nD τ) O W
        ∗ MayWait (c : Thread nD τ) (semOf ch) () O ∗ atPos ER (cell ch c) 0 ∅ 0)
      ∗ ((owes (c : Thread nD τ) O (insert (semOf ch, ()) W) ∗ chPay X Wt c true ch ∗ semVal (cell ch c) 0)
          -∗ wp frame (wpE (defs₀ (F := F)) 𝒱₀ c none) Set.univ (k ⟨⟩) Kt))
      ⊢ wp frame (wpE (defs₀ (F := F)) 𝒱₀ c none) Set.univ (.op (.waitDma2 s a b ha hb) k) Kt := by
  have he := (expect_one X Wt c h h1).trans hN
  have hr := rest_one X Wt c h h1
  have hcl := close_cell X Wt κ (cell ch c)
  generalize chPay X Wt c true ch = P at hr ⊢
  unfold cell at he hr hcl ⊢
  rw [hs] at he hr hcl ⊢
  rw [← hab] at he ⊢
  iintro ⟨⟨#HI, H⟩, Hk⟩
  iapply (Rounds.wp_wait_rest_token 𝒱₀ ER (rd X Wt) (c : Thread nD τ) none (κ := κ)
      (wpE_waitDma2_eq (src := a) (dst := b) 𝒱₀ (c : Thread nD τ) none Set.univ) (Set.mem_univ _) () (O := O) (W := W) (R := 0) (m := 0) (T := ∅)
      ((Nat.zero_add _).trans he.symm)) $$ [H]
  · isplitr; · iexact HI
    iexact H
  iintro ⟨HO, Hat, -, Hpay⟩
  ihave Hpay := (Entails.of_eq hr) $$ Hpay
  imod hcl $$ [Hat] with Hsv
  · isplitr; · iexact HI
    iexact Hat
  iapply Hk
  isplitl [HO]; · iexact HO
  isplitl [Hpay]; · iexact Hpay
  iexact Hsv

theorem hc_sub (k : ℕ) : (hiM : Memref sig .tc .vmem S5x1x1 .f32).view.setOn (hcR k).toLoadRect.set ⊆ (hcM k).view.set := by
  rw [hc_set, View.set_slice]
  exact Finset.Subset.refl _

theorem hc_const (k : ℕ) (v : F .f32) :
    (hiM : Memref sig .tc .vmem S5x1x1 .f32).view.readAt (Elt F) (hcR k).toLoadRect (fun _ => v) = (fun _ => v : Vec F S1x1x1 .f32) := rfl

/-- Loading a received maximum. -/
theorem load_hc (k : ℕ) (v : F .f32) (Kt : Vec F S1x1x1 .f32 → sProp 𝕄) :
    iprop(hcPts c k (fun _ => v) ∗ (hcPts c k (fun _ => v) -∗ Kt (fun _ => v)))
      ⊢ wp frame (wpE (defs₀ (F := F)) 𝒱₀ c none) Set.univ
          (.op (.load hiM (hcR k).toLoadRect (View.loadsAt_vmem h_S1x1x1)) Prog.ret : TProg F (Vec F S1x1x1 .f32)) Kt := by
  have hS := hc_sub k
  rw [show hcPts c k (fun _ => v) = ((hiM : Memref sig .tc .vmem S5x1x1 .f32).view.loc (c : Thread nD τ) ↦[(hcM k).view.set]{fullShare} (fun _ => v)) from rfl]
  generalize (hcM k).view.set = S at hS ⊢
  iintro ⟨H, Hk⟩
  iapply (wp_load 𝒱₀ (c : Thread nD τ) none Set.univ (m := hiM) (r := (hcR k).toLoadRect) hS) $$ H; iintro H
  rw [hc_const, wp_ret]; imodintro
  iapply Hk
  iexact H

/-- What an exchange leaves: the received cell, both counters back at zero. -/
def exDone (k : ℕ) : sProp 𝕄 := iprop(hcPts c k (hcF X Wt c) ∗ semVal (cell (.hs k) c) 0 ∗ semVal (cell (.hr k) c) 0)

/-- Exchange `k` returns the partner's maximum. -/
theorem exch_sound {k : ℕ} (hk : k < 5) (Kt : Vec F S1x1x1 .f32 → sProp 𝕄) :
    iprop(records X Wt K ∗ (exRes c k ∗ right (pt c k) k ∗ hbPts c (fun _ => cur X Wt k c) ∗ ∃ W, owes (c : Thread nD τ) (owe c 16 15 k) W)
        ∗ ((exDone X Wt c k ∗ hbPts c (fun _ => cur X Wt k c) ∗ ∃ W, owes (c : Thread nD τ) (owe c 16 15 (k + 1)) W) -∗ Kt (fun _ => cur X Wt k (pt c k))))
      ⊢ wp frame (wpE (defs₀ (F := F)) 𝒱₀ c none) Set.univ (exchP (pt c k) k) Kt := by
  have hm1 : records X Wt K ⊢ MayWait (c : Thread nD τ) (semOf (.hs k)) () (owe c 16 15 (k + 1)) :=
    Idealize.SL.BI.Entails.trans (@rec_lev F _ X Wt K) (mayWait_cell (ch := .hs k) hk c (.inr (le_refl _)) (.inr (le_refl _)) (by simp only [chLv]; omega))
  have hm2 : records X Wt K ⊢ MayWait (c : Thread nD τ) (semOf (.hr k)) () (owe c 16 15 (k + 1)) :=
    Idealize.SL.BI.Entails.trans (@rec_lev F _ X Wt K) (mayWait_cell (ch := .hr k) hk c (.inr (le_refl _)) (.inr (le_refl _)) (by simp only [chLv]; omega))
  unfold exRes right exchP exDone
  rw [owe_exch c hk, ← hc_at X Wt c hk]
  simp only [Prog.lift, Prog.bind_op, Prog.bind_ret, Prog.pure_eq_ret, Prog.bind_assoc]
  iintro ⟨#HR, ⟨⟨HtS, #HrS, HtR, HatS, HatR, HcR⟩, ⟨⟨%fd, Hd⟩, #HrR⟩, Hb, ⟨%W, HO⟩⟩, Hk⟩
  ihave #HI1 := (rec_inv X Wt K (ch := .hs k) hk c) $$ HR
  ihave #HI2 := (rec_inv X Wt K (ch := .hr k) hk (pt c k)) $$ HR
  ihave #HI3 := (rec_inv X Wt K (ch := .hr k) hk c) $$ HR
  iapply (Rounds.wp_send_pointsTo 𝒱₀ ER (rd X Wt) (c : Thread nD τ) none (c' := (pt c k : Thread nD τ)) (src := hbM)
      (dst := hcM k) (sS := .dma (hsS k)) (sem := .dma (hrS k)) (q := fullShare) (fs := fun _ => cur X Wt k c) (fd := fd)
      (κ₁ := K (cell (.hs k) c)) (κ₂ := K (cell (.hr k) (pt c k))) (r₁ := 0) (r₂ := 0) (d₁ := true) (d₂ := true)
      (hs_duty X Wt c hk) (hr_duty X Wt hk (pt c k)) () () Nh rfl (amount_cell X Wt c (ch := .hs k) hk 0 true) (amount_cell X Wt (pt c k) (ch := .hr k) hk 0 true)
      (owe c 16 15 (k + 1)) rfl (W := W) (hs_pay X Wt c hk) (hr_pay X Wt c hk fd)) $$ [Hb Hd HO HtS HtR]
  · isplitr; · iexact HI1
    isplitr; · iexact HI2
    isplitl [Hb]; · iexact Hb
    isplitl [Hd]; · iexact Hd
    isplitl [HO]; · iexact HO
    isplitl [HtS]; · iexact HtS
    isplitr; · iexact HrS
    isplitl [HtR]; · iexact HtR
    iexact HrR
  iintro ⟨HcS, HO⟩
  iapply (wait_h X Wt c (hcM k) hbM _ _ rfl (.hs k) (hsS k) rfl hk rfl rfl (K (cell (.hs k) c)) (owe c 16 15 (k + 1)) W)
  isplitl [HcS HO HatS]
  · isplitr; · iexact HI1
    isplitl [HcS]; · iexact HcS
    isplitl [HO]; · iexact HO
    isplitr; · iapply hm1; iexact HR
    iexact HatS
  iintro ⟨HO, Hb, HvS⟩
  iapply (wait_h X Wt c hbM (hcM k) _ _ rfl (.hr k) (hrS k) rfl hk rfl rfl (K (cell (.hr k) c)) (owe c 16 15 (k + 1)) _)
  isplitl [HcR HO HatR]
  · isplitr; · iexact HI3
    isplitl [HcR]; · iexact HcR
    isplitl [HO]; · iexact HO
    isplitr; · iapply hm2; iexact HR
    iexact HatR
  iintro ⟨HO, Hc, HvR⟩
  simp only [chPay, hsPay, hrPay]
  iapply (load_hc c k (cur X Wt k (pt c k)) Kt)
  isplitl [Hc]; · iexact Hc
  iintro Hc
  iapply Hk
  isplitl [Hc HvS HvR]
  · isplitl [Hc]; · iexact Hc
    isplitl [HvS]; · iexact HvS
    iexact HvR
  isplitl [Hb]; · iexact Hb
  iexists _; iexact HO

/-! ## The rounds -/

/-- The exchange after `k` rounds. -/
def exI (k : ℕ) : sProp 𝕄 :=
  iprop(bigSep (Finset.Ico k 5) (fun j => iprop(exRes c j ∗ right (pt c j) j)) ∗ bigSep (Finset.range k) (exDone X Wt c)
    ∗ hbPts c (fun _ => cur X Wt k c) ∗ ∃ W, owes (c : Thread nD τ) (owe c 16 15 k) W)

theorem hb_write (f w : (cc0_scratch5 : Ref sig .tc).ty.Contents (Elt F)) :
    ((hbM : Memref sig .tc .vmem S1x1 .f32).access hbR).write (Elt F) f w Finset.univ = w :=
  Memref.write_access_unit_zero_univ (Elt F) cc0_scratch5 (by funext a; fin_cases a <;> rfl) _ f w
theorem o_write (f w : (cc0_stg3_0 : Ref sig .tc).ty.Contents (Elt F)) :
    ((oM : Memref sig .tc .vmem S4096x256 .f32).access oR).write (Elt F) f w Finset.univ = w :=
  Memref.write_access_unit_zero_univ (Elt F) cc0_stg3_0 (by funext a; fin_cases a <;> rfl) _ f w
theorem cur_zero : k0_pay36 (outF X Wt c) = cur X Wt 0 c := rfl
theorem cur_succ (k : ℕ) : k0_pay38 (cur X Wt k c) (fun _ => cur X Wt k (pt c k)) = cur X Wt (k + 1) c := rfl

theorem cast_const (v : F .f32) : shapeCast S1x1 (broadcast S1x1 v) shapeCasts_S1x1_S1x1 = fun _ => v := rfl
theorem pay37_gen (f : Vec F S4096x256 .f32) : k0_pay37 f = fun _ => k0_pay36 f := cast_const (k0_pay36 f)
theorem pay37_eq : k0_pay37 (outF X Wt c) = fun _ => cur X Wt 0 c :=
  (pay37_gen _).trans (congrArg (fun v _ => v) (cur_zero X Wt c))
theorem pay39_eq (k : ℕ) : k0_pay39 (cur X Wt k c) (fun _ => cur X Wt k (pt c k)) = fun _ => cur X Wt (k + 1) c := by
  exact (cast_const (k0_pay38 (cur X Wt k c) (fun _ => cur X Wt k (pt c k)))).trans (congrArg (fun v _ => v) (cur_succ X Wt c k))
theorem ret_bind {α : Type} (v : α) (Kt : α → sProp 𝕄) :
    Kt v ⊢ wp frame (wpE (defs₀ (F := F)) 𝒱₀ c none) Set.univ ((Prog.ret PUnit.unit : TProg F PUnit).bind fun _ => pure v) Kt := by
  show _ ⊢ wp frame (wpE (defs₀ (F := F)) 𝒱₀ c none) Set.univ (Prog.ret v : TProg F α) Kt
  rw [wp_ret]
  iintro H
  imodintro
  iexact H

theorem hb_store (f w : (cc0_scratch5 : Ref sig .tc).ty.Contents (Elt F)) {α : Type} (k : PUnit → TProg F α) (Kt : α → sProp 𝕄) :
    iprop(hbPts c f ∗ (hbPts c w -∗ wp frame (wpE (defs₀ (F := F)) 𝒱₀ c none) Set.univ (k ⟨⟩) Kt))
      ⊢ wp frame (wpE (defs₀ (F := F)) 𝒱₀ c none) Set.univ
          ((Prog.lift (.load hbM hbR.toLoadRect (View.loadsAt_vmem h_S1x1)) >>= fun _ : Vec F S1x1 .f32 =>
            .op (.store hbM hbR w Finset.univ (View.stores_vmem_bits_univ h_S1x1 rfl) (.inl rfl)) k) : TProg F α) Kt := by
  simp only [hb_whole]
  simp only [Prog.lift, Prog.bind_op, Prog.bind_ret, Prog.pure_eq_ret]
  iintro ⟨H, Hk⟩
  iapply (wp_load 𝒱₀ (c : Thread nD τ) none Set.univ (m := hbM) (Finset.subset_univ _)) $$ H; iintro H
  iapply (wp_store 𝒱₀ (c : Thread nD τ) none Set.univ (m := hbM) (r := hbR) (Mk := Finset.univ) (Finset.subset_univ _)) $$ H; iintro H
  rw [hb_write]
  iapply Hk
  iexact H

/-- Round `k` takes the greater of the two maxima to the next round. -/
theorem round_sound {k : ℕ} (hk : k < 5) (Kt : F .f32 → sProp 𝕄) :
    iprop(records X Wt K ∗ exI X Wt c k ∗ (exI X Wt c (k + 1) -∗ Kt (cur X Wt (k + 1) c)))
      ⊢ wp frame (wpE (defs₀ (F := F)) 𝒱₀ c none) Set.univ (roundP (pt c k) k (cur X Wt k c)) Kt := by
  unfold exI roundP
  rw [big_head _ hk, big_range_last, wp_bind]
  iintro ⟨#HR, ⟨⟨⟨He, Hr⟩, Hes⟩, Hd, Hb, HO⟩, Hk⟩
  iapply (exch_sound X Wt K c hk)
  isplitr; · iexact HR
  isplitl [He Hr Hb HO]
  · isplitl [He]; · iexact He
    isplitl [Hr]; · iexact Hr
    isplitl [Hb]; · iexact Hb
    iexact HO
  iintro ⟨Hx, Hb, HO⟩
  rw [pay39_eq]
  iapply (hb_store c _ (fun _ => cur X Wt (k + 1) c))
  isplitl [Hb]; · iexact Hb
  iintro Hb
  rw [cur_succ]
  iapply (ret_bind c (cur X Wt (k + 1) c) Kt)
  iapply Hk
  isplitl [Hes]; · iexact Hes
  isplitl [Hx Hd]
  · isplitl [Hx]; · iexact Hx
    iexact Hd
  isplitl [Hb]; · iexact Hb
  iexact HO

theorem o_load (f : Vec F S4096x256 .f32) :
    (oM : Memref sig .tc .vmem S4096x256 .f32).view.readAt (Elt F) oR.toLoadRect f = f :=
  Memref.readAt_unit_zero (Elt F) cc0_stg3_0 (by funext a; fin_cases a <;> rfl) _ f

/-- The own maximum, of the whole product. -/
theorem max_sound (Kt : F .f32 → sProp 𝕄) :
    iprop((oPts c (outF X Wt c) ∗ ∃ f, hbPts c f) ∗ ((oPts c (outF X Wt c) ∗ hbPts c (fun _ => cur X Wt 0 c)) -∗ Kt (cur X Wt 0 c)))
      ⊢ wp frame (wpE (defs₀ (F := F)) 𝒱₀ c none) Set.univ maxP Kt := by
  unfold maxP
  rw [wp_bind]
  simp only [Prog.lift]
  iintro ⟨⟨Ho, ⟨%f, Hb⟩⟩, Hk⟩
  iapply (wp_load 𝒱₀ (c : Thread nD τ) none Set.univ (m := oM) (Finset.subset_univ _)) $$ Ho; iintro Ho
  rw [o_load, wp_ret]; imodintro
  rw [pay37_eq]
  iapply (hb_store c f (fun _ => cur X Wt 0 c))
  isplitl [Hb]; · iexact Hb
  iintro Hb
  rw [cur_zero]
  iapply (ret_bind c (cur X Wt 0 c) Kt)
  iapply Hk
  isplitl [Ho]; · iexact Ho
  iexact Hb

/-- The last exchange, and the scaling. -/
theorem last_sound (Kt : PUnit → sProp 𝕄) :
    iprop(records X Wt K ∗ (exI X Wt c 4 ∗ oPts c (outF X Wt c))
        ∗ ((bigSep (Finset.range 5) (exDone X Wt c) ∗ (∃ f, hbPts c f) ∗ oPts c (finF X Wt c) ∗ ∃ W, owes (c : Thread nD τ) 0 W) -∗ Kt ⟨⟩))
      ⊢ wp frame (wpE (defs₀ (F := F)) 𝒱₀ c none) Set.univ (lastP (pt c 4) (cur X Wt 4 c)) Kt := by
  unfold exI lastP
  rw [big_head _ (show 4 < 5 by decide), big_range_last (exDone X Wt c) 4, wp_bind]
  iintro ⟨#HR, ⟨⟨⟨⟨He, Hr⟩, -⟩, Hd, Hb, HO⟩, Ho⟩, Hk⟩
  iapply (exch_sound X Wt K c (show 4 < 5 by decide))
  isplitr; · iexact HR
  isplitl [He Hr Hb HO]
  · isplitl [He]; · iexact He
    isplitl [Hr]; · iexact Hr
    isplitl [Hb]; · iexact Hb
    iexact HO
  rw [owe_end]
  simp only [Prog.lift, Prog.bind_op, Prog.bind_ret, Prog.pure_eq_ret]
  iintro ⟨Hx, Hb, HO⟩
  iapply (wp_load 𝒱₀ (c : Thread nD τ) none Set.univ (m := oM) (Finset.subset_univ _)) $$ Ho; iintro Ho
  rw [o_load]
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  rw [o_write]
  rw [wp_ret]; imodintro
  iapply Hk
  isplitl [Hx Hd]
  · isplitl [Hx]; · iexact Hx
    iexact Hd
  isplitl [Hb]; · iexists _; iexact Hb
  isplitl [Ho]; · iexact Ho
  iexact HO

theorem dev34_eq : ∀ c : Fin 32, k0_dev34 c = (pt c 0).val := by decide +kernel
theorem dev35_eq : ∀ c : Fin 32, k0_dev35 c = (pt c 1).val := by decide +kernel
theorem dev36_eq : ∀ c : Fin 32, k0_dev36 c = (pt c 2).val := by decide +kernel
theorem dev37_eq : ∀ c : Fin 32, k0_dev37 c = (pt c 3).val := by decide +kernel
theorem dev38_eq : ∀ c : Fin 32, k0_dev38 c = (pt c 4).val := by decide +kernel

/-- What follows the gathering is sound: the result is the scaled product. -/
theorem rest_sound (Kt : PUnit → sProp 𝕄) :
    iprop(records X Wt K ∗ (oPts c (outF X Wt c) ∗ (∃ f, hbPts c f) ∗ bigSep (Finset.range 5) (fun j => iprop(exRes c j ∗ right (pt c j) j))
          ∗ ∃ W, owes (c : Thread nD τ) (owe c 16 15 0) W)
        ∗ ((bigSep (Finset.range 5) (exDone X Wt c) ∗ (∃ f, hbPts c f) ∗ oPts c (finF X Wt c) ∗ ∃ W, owes (c : Thread nD τ) 0 W) -∗ Kt ⟨⟩))
      ⊢ wp frame (wpE (defs₀ (F := F)) 𝒱₀ c none) Set.univ (restP c) Kt := by
  unfold restP
  have e0 : (⟨k0_dev34 c, k0_dev34_lt _⟩ : Dev nD) = pt c 0 := Fin.ext (dev34_eq c)
  have e1 : (⟨k0_dev35 c, k0_dev35_lt _⟩ : Dev nD) = pt c 1 := Fin.ext (dev35_eq c)
  have e2 : (⟨k0_dev36 c, k0_dev36_lt _⟩ : Dev nD) = pt c 2 := Fin.ext (dev36_eq c)
  have e3 : (⟨k0_dev37 c, k0_dev37_lt _⟩ : Dev nD) = pt c 3 := Fin.ext (dev37_eq c)
  have e4 : (⟨k0_dev38 c, k0_dev38_lt _⟩ : Dev nD) = pt c 4 := Fin.ext (dev38_eq c)
  rw [e0, e1, e2, e3, e4, wp_bind]
  iintro ⟨#HR, ⟨Ho, Hb, He, HO⟩, Hk⟩
  iapply (max_sound X Wt c)
  isplitl [Ho Hb]
  · isplitl [Ho]; · iexact Ho
    iexact Hb
  iintro ⟨Ho, Hb⟩
  rw [wp_bind]
  iapply (round_sound X Wt K c (k := 0) (by decide))
  isplitr; · iexact HR
  isplitl [He Hb HO]
  · unfold exI
    rw [← Finset.range_eq_Ico, Finset.range_zero, bigSep_empty]
    isplitl [He]; · iexact He
    isplitr; · iempintro
    isplitl [Hb]; · iexact Hb
    iexact HO
  iintro HI
  rw [wp_bind]
  iapply (round_sound X Wt K c (k := 1) (by decide))
  isplitr; · iexact HR
  isplitl [HI]; · iexact HI
  iintro HI
  rw [wp_bind]
  iapply (round_sound X Wt K c (k := 2) (by decide))
  isplitr; · iexact HR
  isplitl [HI]; · iexact HI
  iintro HI
  rw [wp_bind]
  iapply (round_sound X Wt K c (k := 3) (by decide))
  isplitr; · iexact HR
  isplitl [HI]; · iexact HI
  iintro HI
  iapply (last_sound X Wt K c)
  isplitr; · iexact HR
  isplitl [HI Ho]
  · isplitl [HI]; · iexact HI
    iexact Ho
  iexact Hk

end Cert.KernelIdeal.Talk
-- ==== Proof.KernelIdealBody.lean ====
/-
  The whole body: the preparation, the gathering, the exchange and the scaling.
-/
module

public import proofs.«01_k».proof.Proof.KernelIdealTail

@[expose] public section
noncomputable section

namespace Cert.KernelIdeal.Talk

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

attribute [local irreducible] sl peer idOf pos cyc travels pt

/-! ## Lists of resources by number -/

section Big
variable {M : Type} [URA M]

theorem big_shift (Φ : ℕ → sProp M) (n : ℕ) : bigSep (Finset.range (n + 1)) Φ = iprop(Φ 0 ∗ bigSep (Finset.range n) fun i => Φ (i + 1)) := by
  rw [Finset.range_add_one', bigSep_insert (by simp), bigSep_map]; rfl

theorem big_concat (Φ : ℕ → sProp M) (a n m : ℕ) :
    bigSep (Finset.range (n + m)) (fun i => Φ (a + i)) = iprop(bigSep (Finset.range n) (fun i => Φ (a + i)) ∗ bigSep (Finset.range m) (fun i => Φ (a + n + i))) := by
  rw [show Finset.range (n + m) = Finset.range n ∪ (Finset.range m).map (addLeftEmbedding n) by
      rw [Finset.range_add_eq_union],
    bigSep_union (by
      rw [Finset.disjoint_left]
      intro x hx h
      obtain ⟨y, -, rfl⟩ := Finset.mem_map.mp h
      have : n + y < n := Finset.mem_range.mp hx
      omega), bigSep_map]
  simp only [addLeftEmbedding_apply, Nat.add_assoc]
  rfl

/-- Two families of resources in either order. -/
theorem big_comm (s : Finset ℕ) (Φ : ℕ → ℕ → sProp M) (n : ℕ) :
    bigSep (Finset.range n) (fun i => bigSep s (Φ i)) = bigSep s fun k => bigSep (Finset.range n) fun i => Φ i k := by
  induction n with
  | zero => simp only [Finset.range_zero, bigSep_empty, bigSep_emp_const]
  | succ n ih => simp only [big_range_last, ih, bigSep_sep']

/-- The 72 semaphores of the copies, role by role. -/
theorem roles (Φ : ℕ → sProp M) : bigSep (Finset.range 72) (fun n => Φ (4 + n))
    = iprop(bigSep (Finset.range 16) (fun i => Φ (4 + i)) ∗ bigSep (Finset.range 16) (fun i => Φ (20 + i)) ∗ bigSep (Finset.range 15) (fun i => Φ (36 + i))
      ∗ bigSep (Finset.range 15) (fun i => Φ (51 + i)) ∗ bigSep (Finset.range 5) (fun i => Φ (66 + i)) ∗ bigSep (Finset.range 5) (fun i => Φ (71 + i))) := by
  rw [show (72 : ℕ) = 16 + (16 + (15 + (15 + (5 + 5)))) from rfl, big_concat, big_concat Φ (4 + 16) 16, big_concat Φ (4 + 16 + 16) 15,
    big_concat Φ (4 + 16 + 16 + 15) 15, big_concat Φ (4 + 16 + 16 + 15 + 15) 5]

end Big

variable (X : Dev nD → Vec F S128x4096 .bf16) (Wt : Dev nD → Vec F S4096x256 .bf16) (K : GSem nD τ sig → ℕ) (c : Dev nD)

/-! ## The gathering -/

/-- The effect of the pieces. -/
def stepsAll (σ : St) : List (List Ins) → Option St
  | [] => some σ
  | l :: ls => (steps σ l).bind fun σ' => stepsAll σ' ls

/-- The slots multiplied by the gathering. -/
def allG : List ℕ := match stepsAll σ₀ ring with | some σ => σ.G | none => []

/-- The check passes, every copy is made and waited for, -/
theorem ring_steps : stepsAll σ₀ ring = some ⟨16, 16, 16, 15, 15, 15, allG⟩ := by rfl
/-- and every slot is multiplied. -/
theorem allG_all : ∀ s < 32, s ∈ allG := by decide +kernel

theorem runs_sound {σ σ' : St} (l : List (List Ins)) (h : stepsAll σ l = some σ') (Kt : PUnit → sProp 𝕄) :
    iprop(records X Wt K ∗ inv X Wt c σ ∗ (inv X Wt c σ' -∗ Kt ⟨⟩))
      ⊢ wp frame (wpE (defs₀ (F := F)) 𝒱₀ c none) Set.univ (runs (fun d => peer d c) l) Kt := by
  induction l generalizing σ with
  | nil =>
    cases h
    show _ ⊢ wp frame (wpE (defs₀ (F := F)) 𝒱₀ c none) Set.univ (Prog.ret ⟨⟩) Kt
    rw [wp_ret]
    iintro ⟨-, Hi, Hk⟩
    imodintro
    iapply Hk; iexact Hi
  | cons i l ih =>
    obtain ⟨σ₁, h1, h2⟩ := Option.bind_eq_some_iff.mp h
    show _ ⊢ wp frame (wpE (defs₀ (F := F)) 𝒱₀ c none) Set.univ (run (fun d => peer d c) i >>= fun _ => runs (fun d => peer d c) l) Kt
    rw [wp_bind]
    iintro ⟨#HR, Hi, Hk⟩
    iapply (run_sound X Wt c K i h1 _)
    isplitr; · iexact HR
    isplitl [Hi]; · iexact Hi
    iintro Hi
    iapply (ih h2)
    isplitr; · iexact HR
    isplitl [Hi]; · iexact Hi
    iexact Hk

/-! ## What a direction leaves -/

theorem shares_join (k : ℕ) : iprop(slotPts c k fullShare.left (commF X c) ∗ slotPts c k fullShare.right (commF X c)) ⊢ slotPts c k fullShare (commF X c) :=
  (pointsTo_share (PosShare.mem_left_op_right fullShare)).2

/-- What the semaphores of a direction are left at. -/
def quiet (d : Bool) : sProp 𝕄 :=
  iprop(bigSep (Finset.range (hops d)) (fun i => semVal (cell (.snd d i) c) 0) ∗ bigSep (Finset.range (hops d)) (fun i => semVal (cell (.rcv d i) c) 0))

/-- A finished direction: slot 0's share, the filled slots whole, the rights that ended here, the counters at zero. -/
theorem chain_end (d : Bool) : chain X d c (hops d) (hops d) (hops d)
    ⊢ iprop(slotPts c 0 (shr d 0) (commF X c) ∗ bigSep (Finset.range (hops d)) (fun i => slotPts c (sl d (i + 1)) fullShare (commF X c))
      ∗ bigSep (Finset.range (hops d)) (fun i => arrivals c (idOf c (sl d (i + 1)))) ∗ quiet c d) := by
  have hl : iprop(bigSep (Finset.range (hops d)) (fun i => slotPts c (sl d i) (shr d i) (commF X c)) ∗ slotPts c (sl d (hops d)) (shr d (hops d)) (commF X c))
      ⊢ iprop(slotPts c 0 (shr d 0) (commF X c) ∗ bigSep (Finset.range (hops d)) (fun i => slotPts c (sl d (i + 1)) fullShare.left (commF X c))) := by
    have h1 := big_range_last (fun i => slotPts c (sl d i) (shr d i) (commF X c)) (hops d)
    have h2 := big_shift (fun i => slotPts c (sl d i) (shr d i) (commF X c)) (hops d)
    rw [h1] at h2
    simp only [sl_zero, shr_succ] at h2
    rw [← h2]
    iintro ⟨H1, H2⟩
    isplitl [H2]; · iexact H2
    iexact H1
  have hj : iprop(bigSep (Finset.range (hops d)) (fun i => slotPts c (sl d (i + 1)) fullShare.left (commF X c))
        ∗ bigSep (Finset.range (hops d)) (fun i => slotPts c (sl d (i + 1)) fullShare.right (commF X c)))
      ⊢ bigSep (Finset.range (hops d)) (fun i => slotPts c (sl d (i + 1)) fullShare (commF X c)) := by
    rw [← bigSep_sep']
    exact bigSep_mono fun i _ => shares_join X c _
  unfold chain
  rw [show Finset.Ico (hops d) (hops d + 1) = {hops d} from Nat.Ico_succ_singleton _, bigSep_singleton]
  unfold doneS doneR stock quiet
  rw [bigSep_sep', bigSep_sep', bigSep_sep']
  iintro ⟨-, -, -, -, ⟨Hs, -⟩, ⟨HS, HvS⟩, HR, HA, HvR⟩
  ihave H := hl $$ [HS Hs]
  · isplitl [HS]; · iexact HS
    iexact Hs
  icases H with ⟨H0, HL⟩
  isplitl [H0]; · iexact H0
  isplitl [HL HR]
  · iapply hj
    isplitl [HL]; · iexact HL
    iexact HR
  isplitl [HA]; · iexact HA
  isplitl [HvS]; · iexact HvS
  iexact HvR

/-- One right among those that ended here. -/
def oneArr (d : Bool) (k i : ℕ) : sProp 𝕄 :=
  if pt (idOf c (sl d (i + 1))) k = c then right (idOf c (sl d (i + 1))) k else iprop(emp)

theorem arr_swap (d : Bool) : bigSep (Finset.range (hops d)) (fun i => arrivals (F := F) c (idOf c (sl d (i + 1))))
    = bigSep (Finset.range 5) fun k => bigSep (Finset.range (hops d)) (oneArr c d k) := by
  unfold arrivals oneArr
  exact big_comm (M := 𝕄) _ _ _

theorem arr_pick {d : Bool} {k i : ℕ} (hk : k < 5) (hi : i < hops d) (h : idOf c (sl d (i + 1)) = pt c k) :
    bigSep (Finset.range (hops d)) (oneArr (F := F) c d k) ⊢ right (pt c k) k := by
  rw [big_focus _ (Finset.mem_range.mpr hi)]
  unfold oneArr
  rw [h, if_pos (pt_pt hk c)]
  exact sep_elim_left

/-- The rights that end here are those to write to this device's partners. -/
theorem rights_end : iprop(bigSep (Finset.range (hops true)) (fun i => arrivals c (idOf c (sl true (i + 1))))
      ∗ bigSep (Finset.range (hops false)) (fun i => arrivals c (idOf c (sl false (i + 1)))))
    ⊢ bigSep (Finset.range 5) fun k => right (F := F) (pt c k) k := by
  rw [arr_swap, arr_swap, ← bigSep_sep']
  refine bigSep_mono fun k hk => ?_
  obtain ⟨d, i, hi, h⟩ := partner_slot c (Finset.mem_range.mp hk)
  cases d
  · exact sep_elim_right.trans (arr_pick c (Finset.mem_range.mp hk) hi h)
  · exact sep_elim_left.trans (arr_pick c (Finset.mem_range.mp hk) hi h)

/-! ## The body -/

/-- What a device takes into the body besides the records. -/
def enter : sProp 𝕄 := iprop(start X Wt c ∗ bigSep (Finset.range 5) (exRes c) ∗ ∃ f, hbPts c f)

/-- What the body leaves. -/
def leave : sProp 𝕄 :=
  iprop(idsPts c ∗ xPts c (X c) ∗ wPts c (Wt c) ∗ oPts c (finF X Wt c) ∗ (∃ f, commPts c f) ∗ (∃ f, hbPts c f) ∗ (∃ f, hiPts c f)
    ∗ semVal (cell .bar c) 0 ∗ (bigSep (Finset.range 72) fun n => semVal ((c : Thread nD τ), SemLoc.dma (dsem (4 + n))) 0)
    ∗ ∃ W, owes (c : Thread nD τ) 0 W)

/-- Once every slot is multiplied the buffer is the product. -/
theorem out_all : outI X Wt c allG ⊢ oPts c (outF X Wt c) := by
  unfold outI
  iintro ⟨%f, H, %hf⟩
  have e : f = outF X Wt c := by
    funext (i : S4096x256.Idx)
    have hi : (i 0).val < 4096 := (i 0).isLt
    obtain ⟨s, hs⟩ := idOf_surj c ⟨(i 0).val / 128, by omega⟩
    exact hf i ⟨s.val, allG_all s.val s.isLt, congrArg Fin.val hs⟩
  subst e
  iexact H

theorem quiet_all : iprop(quiet c true ∗ quiet c false ∗ bigSep (Finset.range 5) (fun k => semVal (cell (.hs k) c) 0) ∗ bigSep (Finset.range 5) (fun k => semVal (cell (.hr k) c) 0))
    ⊢ (bigSep (Finset.range 72) fun n => semVal ((c : Thread nD τ), SemLoc.dma (dsem (4 + n))) 0 : sProp 𝕄) := by
  have h := roles (M := 𝕄) (fun n => semVal ((c : Thread nD τ), SemLoc.dma (dsem n)) 0)
  rw [h]
  unfold quiet
  iintro ⟨⟨H1, H2⟩, ⟨H3, H4⟩, H5, H6⟩
  isplitl [H1]; · iexact H1
  isplitl [H2]; · iexact H2
  isplitl [H3]; · iexact H3
  isplitl [H4]; · iexact H4
  isplitl [H5]; · iexact H5
  iexact H6

theorem inv_end : inv X Wt c ⟨16, 16, 16, 15, 15, 15, allG⟩
    = iprop(chain X true c (hops true) (hops true) (hops true) ∗ chain X false c (hops false) (hops false) (hops false)
      ∗ (∃ W, owes (c : Thread nD τ) (owe c 16 15 0) W) ∗ idsPts c ∗ wPts c (Wt c) ∗ ownPts X c ∗ outI X Wt c allG) := rfl

theorem done_split : bigSep (Finset.range 5) (exDone X Wt c)
    ⊢ iprop(hiPts c (hcF X Wt c) ∗ bigSep (Finset.range 5) (fun k => semVal (cell (.hs k) c) 0) ∗ bigSep (Finset.range 5) (fun k => semVal (cell (.hr k) c) 0)) := by
  unfold exDone
  rw [bigSep_sep', bigSep_sep', hc_split]

/-- The body is sound: it leaves the device's result, every counter back at zero, and nothing owed. -/
theorem body_sound (Kt : PUnit → sProp 𝕄) :
    iprop(records X Wt K ∗ enter X Wt c ∗ (leave X Wt c -∗ Kt ⟨⟩))
      ⊢ wp frame (wpE (defs₀ (F := F)) 𝒱₀ c none) Set.univ
        (cc0_body idsM (Memref.isWhole_whole _) xM (Memref.isWhole_whole _) wM (Memref.isWhole_whole _) oM (Memref.isWhole_whole _) commM (Memref.isWhole_whole _)
          cc0_scratch1 cc0_scratch2 cc0_scratch3 cc0_scratch4 hbM (Memref.isWhole_whole _) hiM (Memref.isWhole_whole _) cc0_scratch7 cc0_scratch8 : TProg F PUnit) Kt := by
  rw [body_eq, wp_bind]
  unfold enter
  iintro ⟨#HR, ⟨Hst, Hex, Hb⟩, Hk⟩
  iapply (head_sound X Wt K c)
  isplitr; · iexact HR
  isplitl [Hst]; · iexact Hst
  iintro ⟨HI, Hx, Hbar⟩
  rw [nb_pre, wp_bind]
  iapply (runs_sound X Wt K c ring ring_steps)
  isplitr; · iexact HR
  isplitl [HI]; · iexact HI
  rw [inv_end]
  iintro ⟨HT, HF, HO, Hi, Hw, Hown, Hout⟩
  ihave HT := (chain_end X c true) $$ HT
  ihave HF := (chain_end X c false) $$ HF
  icases HT with ⟨H0T, HsT, HaT, HqT⟩
  icases HF with ⟨H0F, HsF, HaF, HqF⟩
  ihave Hout := (out_all X Wt c) $$ Hout
  ihave Hrt := (rights_end c) $$ [HaT HaF]
  · isplitl [HaT]; · iexact HaT
    iexact HaF
  iapply (rest_sound X Wt K c)
  isplitr; · iexact HR
  isplitl [Hout Hb Hex Hrt HO]
  · isplitl [Hout]; · iexact Hout
    isplitl [Hb]; · iexact Hb
    isplitl [Hex Hrt]
    · rw [bigSep_sep']
      isplitl [Hex]; · iexact Hex
      iexact Hrt
    iexact HO
  iintro ⟨Hd, Hb, Ho, HO⟩
  iapply Hk
  unfold leave
  ihave Hd := (done_split X Wt c) $$ Hd
  icases Hd with ⟨Hc, HvS, HvR⟩
  isplitl [Hi]; · iexact Hi
  isplitl [Hx]; · iexact Hx
  isplitl [Hw]; · iexact Hw
  isplitl [Ho]; · iexact Ho
  isplitl [H0T H0F Hown HsT HsF]
  · iexists (commF X c)
    rw [comm_split]
    isplitl [H0T H0F Hown]
    · iapply (pointsTo_share (PosShare.mem_left_op_right fullShare)).2
      isplitl [H0T]; · iexact H0T
      iapply (pointsTo_share (PosShare.mem_left_op_right fullShare.right)).2
      isplitl [H0F]; · iexact H0F
      iexact Hown
    isplitl [HsT]; · iexact HsT
    iexact HsF
  isplitl [Hb]; · iexact Hb
  isplitl [Hc]
  · iexists (hcF X Wt c)
    iexact Hc
  isplitl [Hbar]; · iexact Hbar
  isplitl [HqT HqF HvS HvR]
  · iapply (quiet_all c)
    isplitl [HqT]; · iexact HqT
    isplitl [HqF]; · iexact HqF
    isplitl [HvS]; · iexact HvS
    iexact HvR
  iexact HO

end Cert.KernelIdeal.Talk
-- ==== Proof.KernelIdealDeal.lean ====
/- Dealing the launch: what the launch deals each device (the rights to open its copies' semaphores, the tokens of the
signals it owes, the credits of those owed to it), and how this makes what the body starts from. -/
module

public import proofs.«01_k».proof.Proof.KernelIdealBody

@[expose] public section
noncomputable section

namespace Cert.KernelIdeal.Talk

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

attribute [local irreducible] sl peer idOf pos cyc travels pt

variable (X : Dev nD → Vec F S128x4096 .bf16) (Wt : Dev nD → Vec F S4096x256 .bf16) (K : GSem nD τ sig → ℕ) (c : Dev nD)

/-- The `n`-th DMA semaphore of device `c`. -/
abbrev gd (n : ℕ) : GSem nD τ sig := ((c : Thread nD τ), SemLoc.dma (dsem n))

/-! ## A device's shares -/

/-- The 72 semaphores of the copies, opened. -/
def opened : sProp 𝕄 := bigSep (Finset.range 72) fun n => iprop(atPos ER (gd c (4 + n)) 0 ∅ 0 ∗ reached ER (gd c (4 + n)) 0)
/-- The tokens of a direction: the reports of its sends at home, the arrivals at the neighbour. -/
def tokD (d : Bool) : sProp 𝕄 :=
  iprop(bigSep (Finset.range (hops d)) (fun i => dutyTok ER (cell (.snd d i) c) 0 true)
    ∗ bigSep (Finset.range (hops d)) fun i => dutyTok ER (cell (.rcv d i) (peer d c)) 0 true)
/-- The tokens of the exchanges of maxima. -/
def tokX : sProp 𝕄 :=
  iprop(bigSep (Finset.range 5) (fun k => dutyTok ER (cell (.hs k) c) 0 true)
    ∗ bigSep (Finset.range 5) fun k => dutyTok ER (cell (.hr k) (pt c k)) 0 true)
/-- The tokens of the signals to the neighbours' barriers. -/
def tokB : sProp 𝕄 := iprop(dutyTok ER (cell .bar (peer false c)) 0 true ∗ dutyTok ER (cell .bar (peer true c)) 0 false)
/-- All tokens of a device. -/
def toks : sProp 𝕄 := iprop(tokB c ∗ (tokD c true ∗ tokD c false) ∗ tokX c)

/-- The credits of the arrivals in one direction, -/
def crD (d : Bool) : sProp 𝕄 := bigSep (Finset.range (hops d)) fun i => cred (tallyAt (cell (.rcv d i) c) () N)
/-- of the partners' maxima, -/
def crX : sProp 𝕄 := bigSep (Finset.range 5) fun k => cred (tallyAt (cell (.hr k) c) () Nh)
/-- and all, the barrier's two units included. -/
def crs : sProp 𝕄 := iprop(cred (tallyAt (cell .bar c) () 2) ∗ (crD c true ∗ crD c false) ∗ crX c)

/-! ## They make what the body starts from -/

theorem dir_intro (d : Bool) :
    iprop(bigSep (Finset.range (hops d)) (fun i => iprop(atPos ER (cell (.snd d i) c) 0 ∅ 0 ∗ reached ER (cell (.snd d i) c) 0))
      ∗ bigSep (Finset.range (hops d)) (fun i => iprop(atPos ER (cell (.rcv d i) c) 0 ∅ 0 ∗ reached ER (cell (.rcv d i) c) 0))
      ∗ tokD c d ∗ crD c d) ⊢ (dir0 c d : sProp 𝕄) := by
  unfold tokD crD dir0 begun
  rw [← bigSep_sep', ← bigSep_sep', ← bigSep_sep', ← bigSep_sep', ← bigSep_sep']
  have h : ∀ i, iprop((atPos ER (cell (.snd d i) c) 0 ∅ 0 ∗ reached ER (cell (.snd d i) c) 0)
      ∗ (atPos ER (cell (.rcv d i) c) 0 ∅ 0 ∗ reached ER (cell (.rcv d i) c) 0)
      ∗ (dutyTok ER (cell (.snd d i) c) 0 true ∗ dutyTok ER (cell (.rcv d i) (peer d c)) 0 true)
      ∗ cred (tallyAt (cell (.rcv d i) c) () N)) ⊢ (iprop(hop0 c d i ∗ reached ER (cell (.rcv d i) c) 0) : sProp 𝕄) := by
    intro i
    unfold hop0 waitRes
    iintro ⟨⟨Ha, Hr⟩, ⟨Hb, #Hs⟩, ⟨Ht, Hu⟩, Hc⟩
    isplitl
    · isplitl [Hr Ht Hu]
      · isplitl [Ht]; · iexact Ht
        isplitl [Hr]; · iexact Hr
        iexact Hu
      isplitl [Hb Hc]
      · isplitl [Hb]; · iexact Hb
        iexact Hc
      iexact Ha
    iexact Hs
  exact bigSep_mono fun i _ => h i

theorem ex_intro :
    iprop(bigSep (Finset.range 5) (fun k => iprop(atPos ER (cell (.hs k) c) 0 ∅ 0 ∗ reached ER (cell (.hs k) c) 0))
      ∗ bigSep (Finset.range 5) (fun k => iprop(atPos ER (cell (.hr k) c) 0 ∅ 0 ∗ reached ER (cell (.hr k) c) 0))
      ∗ tokX c ∗ crX c ∗ ∃ f, hiPts c f) ⊢ (iprop(bigSep (Finset.range 5) (exRes c) ∗ bigSep (Finset.range 5) (right c)) : sProp 𝕄) := by
  unfold tokX crX
  have h : ∀ k, iprop((atPos ER (cell (.hs k) c) 0 ∅ 0 ∗ reached ER (cell (.hs k) c) 0)
      ∗ (atPos ER (cell (.hr k) c) 0 ∅ 0 ∗ reached ER (cell (.hr k) c) 0)
      ∗ (dutyTok ER (cell (.hs k) c) 0 true ∗ dutyTok ER (cell (.hr k) (pt c k)) 0 true)
      ∗ cred (tallyAt (cell (.hr k) c) () Nh) ∗ ∃ f, hcPts c k f) ⊢ (iprop(exRes c k ∗ right c k) : sProp 𝕄) := by
    intro k
    unfold exRes right
    iintro ⟨⟨Ha, Hr⟩, ⟨Hb, #Hs⟩, ⟨Ht, Hu⟩, Hc, Hf⟩
    isplitr [Hf]
    · isplitl [Ht]; · iexact Ht
      isplitl [Hr]; · iexact Hr
      isplitl [Hu]; · iexact Hu
      isplitl [Ha]; · iexact Ha
      isplitl [Hb]; · iexact Hb
      iexact Hc
    isplitl; · iexact Hf
    iexact Hs
  have h1 : (iprop(∃ f, hiPts c f) : sProp 𝕄) ⊢ bigSep (Finset.range 5) fun k => iprop(∃ f, hcPts c k f) := by
    have h2 : ∀ f, hiPts c f ⊢ (bigSep (Finset.range 5) fun k => iprop(∃ f, hcPts c k f) : sProp 𝕄) := by
      intro f
      rw [hc_split]
      have h3 : ∀ k, hcPts c k f ⊢ (iprop(∃ f, hcPts c k f) : sProp 𝕄) := by
        intro k; iintro H; iexists f; iexact H
      exact bigSep_mono fun k _ => h3 k
    iintro ⟨%f, H⟩
    iapply (h2 f); iexact H
  have h4 : iprop(bigSep (Finset.range 5) (fun k => iprop(atPos ER (cell (.hs k) c) 0 ∅ 0 ∗ reached ER (cell (.hs k) c) 0))
      ∗ bigSep (Finset.range 5) (fun k => iprop(atPos ER (cell (.hr k) c) 0 ∅ 0 ∗ reached ER (cell (.hr k) c) 0))
      ∗ (bigSep (Finset.range 5) (fun k => dutyTok ER (cell (.hs k) c) 0 true)
        ∗ bigSep (Finset.range 5) fun k => dutyTok ER (cell (.hr k) (pt c k)) 0 true)
      ∗ bigSep (Finset.range 5) (fun k => cred (tallyAt (cell (.hr k) c) () Nh)) ∗ bigSep (Finset.range 5) fun k => iprop(∃ f, hcPts c k f))
      ⊢ (iprop(bigSep (Finset.range 5) (exRes c) ∗ bigSep (Finset.range 5) (right c)) : sProp 𝕄) := by
    rw [← bigSep_sep', ← bigSep_sep', ← bigSep_sep', ← bigSep_sep', ← bigSep_sep', ← bigSep_sep']
    exact bigSep_mono fun k _ => h k
  iintro ⟨Ha, Hb, Ht, Hc, Hf⟩
  ihave Hf := h1 $$ Hf
  iapply h4
  isplitl [Ha]; · iexact Ha
  isplitl [Hb]; · iexact Hb
  isplitl [Ht]; · iexact Ht
  isplitl [Hc]; · iexact Hc
  iexact Hf

theorem opened_roles : (opened c : sProp 𝕄) ⊢
    iprop(bigSep (Finset.range (hops true)) (fun i => iprop(atPos ER (cell (.snd true i) c) 0 ∅ 0 ∗ reached ER (cell (.snd true i) c) 0))
      ∗ bigSep (Finset.range (hops true)) (fun i => iprop(atPos ER (cell (.rcv true i) c) 0 ∅ 0 ∗ reached ER (cell (.rcv true i) c) 0))
      ∗ bigSep (Finset.range (hops false)) (fun i => iprop(atPos ER (cell (.snd false i) c) 0 ∅ 0 ∗ reached ER (cell (.snd false i) c) 0))
      ∗ bigSep (Finset.range (hops false)) (fun i => iprop(atPos ER (cell (.rcv false i) c) 0 ∅ 0 ∗ reached ER (cell (.rcv false i) c) 0))
      ∗ bigSep (Finset.range 5) (fun k => iprop(atPos ER (cell (.hs k) c) 0 ∅ 0 ∗ reached ER (cell (.hs k) c) 0))
      ∗ bigSep (Finset.range 5) (fun k => iprop(atPos ER (cell (.hr k) c) 0 ∅ 0 ∗ reached ER (cell (.hr k) c) 0))) :=
  Entails.of_eq (roles (fun n => iprop(atPos ER (gd c n) 0 ∅ 0 ∗ reached ER (gd c n) 0)))

/-- All that the body starts from. -/
theorem enter_intro :
    iprop((atPos ER (cell .bar c) 0 ∅ 0 ∗ opened c ∗ toks c ∗ crs c) ∗ ((∃ f, commPts c f) ∗ (∃ f, hbWhole c f) ∗ ∃ f, hiPts c f)
      ∗ idsPts c ∗ xPts c (X c) ∗ wPts c (Wt c) ∗ (∃ f, oPts c f) ∗ ∃ W, owes (c : Thread nD τ) (owe0 c) W) ⊢ enter X Wt c := by
  have hb : (iprop(∃ f, hbWhole c f) : sProp 𝕄) ⊢ iprop(∃ f, hbPts c f) := by
    iintro ⟨%f, H⟩; iexists f; iapply (Entails.of_eq (hb_whole c f).symm); iexact H
  unfold enter start bar0 toks tokB crs
  iintro ⟨⟨Hat, Hop, ⟨⟨Hb1, Hb2⟩, ⟨Htt, Htf⟩, Htx⟩, Hcb, ⟨Hct, Hcf⟩, Hcx⟩, ⟨Hcomm, Hhb, Hhi⟩, Hids, Hx, Hw, Ho, HO⟩
  ihave Hop := (opened_roles c) $$ Hop
  icases Hop with ⟨H1, H2, H3, H4, H5, H6⟩
  ihave Hdt := (dir_intro c true) $$ [H1 H2 Htt Hct]
  · isplitl [H1]; · iexact H1
    isplitl [H2]; · iexact H2
    isplitl [Htt]; · iexact Htt
    iexact Hct
  ihave Hdf := (dir_intro c false) $$ [H3 H4 Htf Hcf]
  · isplitl [H3]; · iexact H3
    isplitl [H4]; · iexact H4
    isplitl [Htf]; · iexact Htf
    iexact Hcf
  ihave Hex := (ex_intro c) $$ [H5 H6 Htx Hcx Hhi]
  · isplitl [H5]; · iexact H5
    isplitl [H6]; · iexact H6
    isplitl [Htx]; · iexact Htx
    isplitl [Hcx]; · iexact Hcx
    iexact Hhi
  icases Hex with ⟨Hex, Hri⟩
  ihave Hhb := hb $$ Hhb
  isplitr [Hex Hhb]
  · isplitl [Hb1 Hb2 Hat Hcb]
    · isplitl [Hb1]; · iexact Hb1
      isplitl [Hb2]; · iexact Hb2
      isplitl [Hat]; · iexact Hat
      iexact Hcb
    isplitl [Hdt Hdf]
    · isplitl [Hdt]; · iexact Hdt
      iexact Hdf
    isplitl [Hri]; · iexact Hri
    isplitl [Hcomm]; · iexact Hcomm
    isplitl [Hids]; · iexact Hids
    isplitl [Hx]; · iexact Hx
    isplitl [Hw]; · iexact Hw
    isplitl [Ho]; · iexact Ho
    iexact HO
  isplitl [Hex]; · iexact Hex
  iexact Hhb

/-! ## The credits -/

theorem semOf_inj {ch ch' : Ch} (h : ch.ok) (h' : ch'.ok) (e : semOf ch = semOf ch') : ch = ch' := by
  rw [← chOf_semOf h, e, chOf_semOf h']

/-- A tally at one played cell, seen at another. -/
theorem hit {ch ch' : Ch} (h : ch.ok) (h' : ch'.ok) (p : Dev nD) (n : ℕ) :
    (tallyAt (cell ch' p) () n : CellTallies nD τ sig Unit) (cell ch c) () = if ch' = ch ∧ p = c then n else 0 := by
  rw [tallyAt_apply]
  refine if_congr ⟨fun e => ?_, fun e => ?_⟩ rfl rfl
  · have e1 : c = p := congrArg (fun g : GSem nD τ sig => g.1.1) e.1
    have e2 : semOf ch = semOf ch' := congrArg (fun g : GSem nD τ sig => g.2) e.1
    exact ⟨(semOf_inj h h' e2).symm, e1.symm⟩
  · rw [e.1, e.2]; exact ⟨rfl, rfl⟩

theorem oweD_at {ch : Ch} (h : ch.ok) (d : Bool) (p : Dev nD) :
    oweD d p 0 (cell ch c) () = ∑ j ∈ Finset.Ico 0 (hops d), if Ch.rcv d j = ch ∧ peer d p = c then N else 0 := by
  unfold oweD
  rw [Finset.sum_apply, Finsupp.finset_sum_apply]
  exact Finset.sum_congr rfl fun j hj => hit c h (show (Ch.rcv d j).ok from (Finset.mem_Ico.mp hj).2) _ _
theorem oweH_at {ch : Ch} (h : ch.ok) (p : Dev nD) :
    oweH p 0 (cell ch c) () = ∑ j ∈ Finset.Ico 0 5, if Ch.hr j = ch ∧ pt p j = c then Nh else 0 := by
  unfold oweH
  rw [Finset.sum_apply, Finsupp.finset_sum_apply]
  exact Finset.sum_congr rfl fun j hj => hit c h (show (Ch.hr j).ok from (Finset.mem_Ico.mp hj).2) _ _

/-- What one device owes a played cell. -/
theorem owe0_at {ch : Ch} (h : ch.ok) (p : Dev nD) :
    owe0 p (cell ch c) () = (((∑ j ∈ Finset.Ico 0 (hops true), if Ch.rcv true j = ch ∧ peer true p = c then N else 0)
      + (∑ j ∈ Finset.Ico 0 (hops false), if Ch.rcv false j = ch ∧ peer false p = c then N else 0)
      + (∑ j ∈ Finset.Ico 0 5, if Ch.hr j = ch ∧ pt p j = c then Nh else 0))
      + (if Ch.bar = ch ∧ peer true p = c then 1 else 0)) + (if Ch.bar = ch ∧ peer false p = c then 1 else 0) := by
  rw [← oweD_at c h, ← oweD_at c h, ← oweH_at c h, ← hit c h (ch' := .bar) trivial, ← hit c h (ch' := .bar) trivial]
  rfl

theorem sum_perm (f : Fin 32 ≃ Fin 32) (n : ℕ) : (∑ p : Fin 32, if f p = c then n else 0) = n :=
  (f.sum_comp fun q => if q = c then n else 0).trans (by rw [Finset.sum_ite_eq' Finset.univ c fun _ => n, if_pos (Finset.mem_univ _)])

theorem owed_rcv (d : Bool) {i : ℕ} (hi : i < hops d) : ∑ p : Dev nD, owe0 p (cell (.rcv d i) c) () = N := by
  refine (Finset.sum_congr rfl fun p _ => ?_).trans (sum_perm c (peerEquiv d) N)
  show _ = if peer d p = c then N else 0
  rw [owe0_at c (show (Ch.rcv d i).ok from hi) p]
  cases d
  · rw [Finset.sum_eq_zero (fun j _ => if_neg (by simp)), Finset.sum_eq_single_of_mem i (Finset.mem_Ico.mpr ⟨Nat.zero_le _, hi⟩)
      (fun j _ hj => if_neg (by simp [hj])), Finset.sum_eq_zero (fun j _ => if_neg (by simp))]
    simp
  · rw [Finset.sum_eq_single_of_mem i (Finset.mem_Ico.mpr ⟨Nat.zero_le _, hi⟩)
      (fun j _ hj => if_neg (by simp [hj])), Finset.sum_eq_zero (fun j _ => if_neg (by simp)), Finset.sum_eq_zero (fun j _ => if_neg (by simp))]
    simp

theorem owed_hr {k : ℕ} (hk : k < 5) : ∑ p : Dev nD, owe0 p (cell (.hr k) c) () = Nh := by
  refine (Finset.sum_congr rfl fun p _ => ?_).trans (sum_perm c (ptEquiv k hk) Nh)
  show _ = if pt p k = c then Nh else 0
  rw [owe0_at c (show (Ch.hr k).ok from hk) p, Finset.sum_eq_zero (fun j _ => if_neg (by simp)), Finset.sum_eq_zero (fun j _ => if_neg (by simp)),
    Finset.sum_eq_single_of_mem k (Finset.mem_Ico.mpr ⟨Nat.zero_le _, hk⟩) (fun j _ hj => if_neg (by simp [hj]))]
  simp

theorem owed_bar : ∑ p : Dev nD, owe0 p (cell .bar c) () = 2 := by
  have h : ∀ p : Dev nD, owe0 p (cell .bar c) () = (if peerEquiv true p = c then 1 else 0) + (if peerEquiv false p = c then 1 else 0) := by
    intro p
    show _ = (if peer true p = c then 1 else 0) + (if peer false p = c then 1 else 0)
    rw [owe0_at c (ch := .bar) trivial p, Finset.sum_eq_zero (fun j _ => if_neg (by simp)), Finset.sum_eq_zero (fun j _ => if_neg (by simp)),
      Finset.sum_eq_zero (fun j _ => if_neg (by simp))]
    simp
  rw [Finset.sum_congr rfl fun p _ => h p, Finset.sum_add_distrib]
  exact congrArg₂ (· + ·) (sum_perm c (peerEquiv true) 1) (sum_perm c (peerEquiv false) 1)

theorem credit_eq {ch : Ch} {n : ℕ} (h : ∑ p : Dev nD, owe0 p (cell ch c) () = n) :
    tallyOn (cell ch c) (launchCredit (Pipeline.owing owe0) 0 (cell ch c)) = (tallyAt (cell ch c) () n : CellTallies nD τ sig Unit) := by
  unfold tallyAt
  refine congrArg _ (Finsupp.ext fun u => ?_)
  cases u
  rw [Pipeline.launchCredit_owing, h, Finsupp.single_eq_same]

theorem copies_sub : ((Finset.range 72).image fun n => (SemLoc.dma (dsem (4 + n)) : SemLoc sig)) ⊆ Finset.univ.erase (SemLoc.reg barS) := by
  intro x hx
  obtain ⟨n, -, rfl⟩ := Finset.mem_image.mp hx
  exact Finset.mem_erase.mpr ⟨(by simp), Finset.mem_univ _⟩
theorem dsem_inj : Set.InjOn (fun n => (SemLoc.dma (dsem (4 + n)) : SemLoc sig)) (Finset.range 72 : Finset ℕ) := by
  intro a ha b hb e
  have ha := Finset.mem_range.mp (Finset.mem_coe.mp ha)
  have hb := Finset.mem_range.mp (Finset.mem_coe.mp hb)
  have e : (4 + a) % 76 = (4 + b) % 76 := congrArg Fin.val (SemLoc.dma.inj e)
  omega

/-- The launch deals each device the credits of what is owed to it. -/
theorem launch_crs : (Pipeline.launchCred owe0 c : sProp 𝕄) ⊢ crs c := by
  unfold Pipeline.launchCred
  rw [bigSep_univ_at _ (SemLoc.reg barS)]
  have h1 := bigSep_subset copies_sub (Φ := fun sm : SemLoc sig => (cred (tallyOn ((c : Thread nD τ), sm) (launchCredit (Pipeline.owing owe0) 0 ((c : Thread nD τ), sm))) : sProp 𝕄))
  rw [bigSep_image_of_injOn dsem_inj] at h1
  have h2 := roles (fun n => (cred (tallyOn (gd c n) (launchCredit (Pipeline.owing owe0) 0 (gd c n))) : sProp 𝕄))
  have hb : (cred (tallyOn (cell .bar c) (launchCredit (Pipeline.owing owe0) 0 (cell .bar c))) : sProp 𝕄) = cred (tallyAt (cell .bar c) () 2) :=
    congrArg _ (credit_eq c (owed_bar c))
  have hd : ∀ d, (bigSep (Finset.range (hops d)) (fun i => cred (tallyOn (cell (.rcv d i) c) (launchCredit (Pipeline.owing owe0) 0 (cell (.rcv d i) c)))) : sProp 𝕄) ⊢ crD c d := by
    intro d
    unfold crD
    have e : ∀ i, i < hops d → (cred (tallyOn (cell (.rcv d i) c) (launchCredit (Pipeline.owing owe0) 0 (cell (.rcv d i) c))) : sProp 𝕄)
        = cred (tallyAt (cell (.rcv d i) c) () N) := fun i hi => congrArg _ (credit_eq c (owed_rcv c d hi))
    exact bigSep_mono fun i hi => Entails.of_eq (e i (Finset.mem_range.mp hi))
  have hx : (bigSep (Finset.range 5) (fun k => cred (tallyOn (cell (.hr k) c) (launchCredit (Pipeline.owing owe0) 0 (cell (.hr k) c)))) : sProp 𝕄) ⊢ crX c := by
    unfold crX
    have e : ∀ k, k < 5 → (cred (tallyOn (cell (.hr k) c) (launchCredit (Pipeline.owing owe0) 0 (cell (.hr k) c))) : sProp 𝕄)
        = cred (tallyAt (cell (.hr k) c) () Nh) := fun k hk => congrArg _ (credit_eq c (owed_hr c hk))
    exact bigSep_mono fun k hk => Entails.of_eq (e k (Finset.mem_range.mp hk))
  have h3 : ((bigSep (Finset.univ.erase (SemLoc.reg barS)) fun sm : SemLoc sig =>
        cred (tallyOn ((c : Thread nD τ), sm) (launchCredit (Pipeline.owing owe0) 0 ((c : Thread nD τ), sm)))) : sProp 𝕄) ⊢ _ :=
    Idealize.SL.BI.Entails.trans h1 (Entails.of_eq h2)
  unfold crs
  iintro ⟨Hb, Hr⟩
  ihave Hr := h3 $$ Hr
  icases Hr with ⟨-, Ht, -, Hf, -, Hx⟩
  isplitl [Hb]; · iapply (Entails.of_eq hb); iexact Hb
  isplitr [Hx]
  · isplitl [Ht]
    · iapply (hd true); iexact Ht
    iapply (hd false); iexact Hf
  iapply hx; iexact Hx

end Cert.KernelIdeal.Talk
-- ==== Proof.KernelIdealTokens.lean ====
/- Dealing the tokens over the devices, and opening a device's semaphores when its kernel begins. -/
module

public import proofs.«01_k».proof.Proof.KernelIdealDeal

@[expose] public section
noncomputable section

namespace Cert.KernelIdeal.Talk

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

attribute [local irreducible] sl peer idOf pos cyc travels pt

variable (X : Dev nD → Vec F S128x4096 .bf16) (Wt : Dev nD → Vec F S4096x256 .bf16) (K : GSem nD τ sig → ℕ) (c : Dev nD)

/-! ## Families over all devices -/

section Fam
variable {M : Type} [URA M]

theorem over_swap (n : ℕ) (Φ : Dev nD → ℕ → sProp M) :
    bigSep Finset.univ (fun c => bigSep (Finset.range n) (Φ c)) = bigSep (Finset.range n) fun k => bigSep Finset.univ fun c => Φ c k := by
  induction n with
  | zero => simp only [Finset.range_zero, bigSep_empty, bigSep_emp_const]
  | succ n ih => simp only [big_range_last, ih, bigSep_sep']

/-- Two families side by side, and the family of pairs. -/
theorem big_zip {I : Type} [DecidableEq I] {s : Finset I} {Φ Ψ : I → sProp M} : iprop(bigSep s Φ ∗ bigSep s Ψ) ⊢ bigSep s fun i => iprop(Φ i ∗ Ψ i) :=
  Entails.of_eq (bigSep_sep' s Φ Ψ).symm
theorem big_unzip {I : Type} [DecidableEq I] {s : Finset I} {Φ Ψ : I → sProp M} : (bigSep s fun i => iprop(Φ i ∗ Ψ i)) ⊢ iprop(bigSep s Φ ∗ bigSep s Ψ) :=
  Entails.of_eq (bigSep_sep' s Φ Ψ)

theorem over_fin (n : ℕ) (Φ : ℕ → sProp M) : bigSep (Finset.univ : Finset (Fin n)) (fun k => Φ k.val) = bigSep (Finset.range n) Φ := by
  rw [show Finset.range n = (Finset.univ : Finset (Fin n)).map Fin.valEmbedding by rw [Fin.map_valEmbedding_univ, Nat.Iio_eq_range], bigSep_map]
  rfl

theorem dorm_inj : Function.Injective dorm := fun p q e =>
  Prod.ext (congrArg (fun g : GSem nD τ sig => g.1.1) e) (Fin.ext (Nat.add_right_cancel (congrArg Fin.val (SemLoc.dma.inj (congrArg (fun g : GSem nD τ sig => g.2) e)))))
theorem dorm_eq (c : Dev nD) (k : Fin 72) : dorm (c, k) = gd c (4 + k.val) := by
  have e : (⟨k.val + 4, by have := k.isLt; show _ < 76; omega⟩ : DmaSem sig) = dsem (4 + k.val) :=
    Fin.ext (show k.val + 4 = (4 + k.val) % 76 by have := k.isLt; omega)
  exact congrArg (fun s : DmaSem sig => ((c : Thread nD τ), (SemLoc.dma s : SemLoc sig))) e

theorem over_pairs (Φ : GSem nD τ sig → sProp M) :
    bigSep (Finset.univ : Finset (Dev nD × Fin 72)) (fun p => Φ (dorm p)) = bigSep Finset.univ fun c => bigSep (Finset.range 72) fun n => Φ (gd c (4 + n)) := by
  rw [bigSep_univ_prod]
  refine bigSep_congr fun c _ => ?_
  rw [← over_fin 72 fun n => Φ (gd c (4 + n))]
  exact bigSep_congr fun k _ => by rw [dorm_eq]

theorem over_dorm (Φ : GSem nD τ sig → sProp M) : bigSep dormCells Φ = bigSep Finset.univ fun c => bigSep (Finset.range 72) fun n => Φ (gd c (4 + n)) := by
  unfold dormCells
  rw [bigSep_image_of_injOn dorm_inj.injOn, over_pairs]

theorem bar_inj : Function.Injective fun c : Dev nD => cell .bar c := fun _ _ e => congrArg (fun g : GSem nD τ sig => g.1.1) e
theorem over_bar (Φ : GSem nD τ sig → sProp M) : bigSep barCells Φ = bigSep Finset.univ fun c => Φ (cell .bar c) := by
  unfold barCells
  rw [bigSep_image_of_injOn bar_inj.injOn]

end Fam

theorem cells_disjoint : Disjoint barCells dormCells := by
  unfold barCells dormCells
  rw [Finset.disjoint_left]
  rintro g h1 h2
  obtain ⟨c, -, rfl⟩ := Finset.mem_image.mp h1
  obtain ⟨p, -, h⟩ := Finset.mem_image.mp h2
  have e : (SemLoc.dma _ : SemLoc sig) = .reg barS := congrArg (fun g : GSem nD τ sig => g.2) h
  cases e

/-! ## The tokens -/

/-- The token of one duty of the first round. -/
abbrev tk (g : GSem nD τ sig) (b : Bool) : sProp 𝕄 := dutyTok ER g 0 b

/-- Every token: two per barrier, one per copy semaphore. -/
def allToks : Finset (GSem nD τ sig × ℕ × Bool) :=
  (Finset.univ.image fun p : Dev nD × Bool => (cell .bar p.1, 0, p.2)) ∪ Finset.univ.image fun p : Dev nD × Fin 72 => (dorm p, 0, true)

theorem allToks_eq : (bigSep allToks (fun x => dutyTok ER x.1 x.2.1 x.2.2) : sProp 𝕄)
    = iprop((bigSep Finset.univ fun c : Dev nD => iprop(tk (cell .bar c) true ∗ tk (cell .bar c) false))
      ∗ bigSep Finset.univ fun c : Dev nD => bigSep (Finset.range 72) fun n => tk (gd c (4 + n)) true) := by
  unfold allToks
  rw [bigSep_union (by
      rw [Finset.disjoint_left]
      rintro g h1 h2
      obtain ⟨p, -, rfl⟩ := Finset.mem_image.mp h1
      obtain ⟨q, -, h⟩ := Finset.mem_image.mp h2
      have e : (SemLoc.dma _ : SemLoc sig) = .reg barS := congrArg (fun g : GSem nD τ sig × ℕ × Bool => g.1.2) h
      cases e),
    bigSep_image_of_injOn (Function.Injective.injOn fun p q e => Prod.ext (congrArg (fun x : GSem nD τ sig × ℕ × Bool => x.1.1.1) e) (congrArg (fun x : GSem nD τ sig × ℕ × Bool => x.2.2) e)),
    bigSep_image_of_injOn (Function.Injective.injOn fun p q e => dorm_inj (congrArg (fun x : GSem nD τ sig × ℕ × Bool => x.1) e))]
  have h1 : (bigSep (Finset.univ : Finset (Dev nD × Bool)) (fun p => tk (cell .bar p.1) p.2) : sProp 𝕄)
      = bigSep Finset.univ fun c : Dev nD => iprop(tk (cell .bar c) true ∗ tk (cell .bar c) false) := by
    rw [bigSep_univ_prod]
    refine bigSep_congr fun c _ => ?_
    rw [show (Finset.univ : Finset Bool) = {true, false} from rfl, bigSep_insert (by decide), bigSep_singleton]
    rfl
  have h2 := over_pairs (fun g => (tk g true : sProp 𝕄))
  rw [← h1, ← h2]
  rfl

/-- Each device gets the tokens of the signals it makes. -/
theorem toks_deal : (bigSep allToks (fun x => dutyTok ER x.1 x.2.1 x.2.2) : sProp 𝕄) ⊢ bigSep Finset.univ toks := by
  have hb1 : (bigSep Finset.univ (fun c : Dev nD => tk (cell .bar c) true) : sProp 𝕄) = bigSep Finset.univ fun c => tk (cell .bar (peer false c)) true :=
    bigSep_univ_equiv (peerEquiv false) _
  have hb2 : (bigSep Finset.univ (fun c : Dev nD => tk (cell .bar c) false) : sProp 𝕄) = bigSep Finset.univ fun c => tk (cell .bar (peer true c)) false :=
    bigSep_univ_equiv (peerEquiv true) _
  have hd : ∀ d, (bigSep Finset.univ (fun c : Dev nD => bigSep (Finset.range (hops d)) fun i => tk (cell (.rcv d i) c) true) : sProp 𝕄)
      = bigSep Finset.univ fun c => bigSep (Finset.range (hops d)) fun i => tk (cell (.rcv d i) (peer d c)) true :=
    fun d => bigSep_univ_equiv (peerEquiv d) fun c => bigSep (Finset.range (hops d)) fun i => tk (cell (.rcv d i) c) true
  have hx : (bigSep Finset.univ (fun c : Dev nD => bigSep (Finset.range 5) fun k => tk (cell (.hr k) c) true) : sProp 𝕄)
      = bigSep Finset.univ fun c => bigSep (Finset.range 5) fun k => tk (cell (.hr k) (pt c k)) true := by
    rw [over_swap, over_swap]
    refine bigSep_congr fun k hk => ?_
    exact bigSep_univ_equiv (ptEquiv k (Finset.mem_range.mp hk)) fun c => tk (cell (.hr k) c) true
  have hr : (bigSep Finset.univ (fun c : Dev nD => bigSep (Finset.range 72) fun n => tk (gd c (4 + n)) true) : sProp 𝕄)
      = bigSep Finset.univ fun c : Dev nD => iprop(bigSep (Finset.range (hops true)) (fun i => tk (cell (.snd true i) c) true)
        ∗ bigSep (Finset.range (hops true)) (fun i => tk (cell (.rcv true i) c) true)
        ∗ bigSep (Finset.range (hops false)) (fun i => tk (cell (.snd false i) c) true)
        ∗ bigSep (Finset.range (hops false)) (fun i => tk (cell (.rcv false i) c) true)
        ∗ bigSep (Finset.range 5) (fun k => tk (cell (.hs k) c) true)
        ∗ bigSep (Finset.range 5) (fun k => tk (cell (.hr k) c) true)) :=
    bigSep_congr fun c _ => roles fun n => tk (gd c n) true
  have ht : (bigSep Finset.univ toks : sProp 𝕄) = bigSep Finset.univ fun c : Dev nD => iprop((tk (cell .bar (peer false c)) true ∗ tk (cell .bar (peer true c)) false)
      ∗ ((bigSep (Finset.range (hops true)) (fun i => tk (cell (.snd true i) c) true) ∗ bigSep (Finset.range (hops true)) (fun i => tk (cell (.rcv true i) (peer true c)) true))
        ∗ bigSep (Finset.range (hops false)) (fun i => tk (cell (.snd false i) c) true) ∗ bigSep (Finset.range (hops false)) (fun i => tk (cell (.rcv false i) (peer false c)) true))
      ∗ bigSep (Finset.range 5) (fun k => tk (cell (.hs k) c) true) ∗ bigSep (Finset.range 5) (fun k => tk (cell (.hr k) (pt c k)) true)) :=
    bigSep_congr fun c _ => by unfold toks tokB tokD tokX; rfl
  rw [allToks_eq, hr, ht]
  simp only [bigSep_sep']
  rw [← hb1, ← hb2, ← hd, ← hd, ← hx]
  iintro ⟨⟨H1, H2⟩, H3, H4, H5, H6, H7, H8⟩
  isplitl [H1 H2]
  · isplitl [H1]; · iexact H1
    iexact H2
  isplitl [H3 H4 H5 H6]
  · isplitl [H3 H4]
    · isplitl [H3]; · iexact H3
      iexact H4
    isplitl [H5]; · iexact H5
    iexact H6
  isplitl [H7]; · iexact H7
  iexact H8

/-! ## Opening -/

/-- The kernel's own semaphores: those of the copies. -/
abbrev osem : Fin 72 → SemLoc sig := fun k => .dma (dsem (4 + k.val))

/-- The rights to open them. -/
def unopened : sProp 𝕄 := bigSep (Finset.range 72) fun n => openTok ER (gd c (4 + n))

theorem own_zero : (Pipeline.ownSems0 osem c : sProp 𝕄) = bigSep (Finset.range 72) fun n => semVal (gd c (4 + n)) 0 := by
  unfold Pipeline.ownSems0
  exact over_fin 72 fun n => (semVal (gd c (4 + n)) 0 : sProp 𝕄)

theorem rec_own {n : ℕ} (h : n < 72) : records X Wt K ⊢ cellInv ER (rd X Wt) (K (gd c (4 + n))) (gd c (4 + n)) := by
  unfold records
  exact sep_elim_left.trans (bigSep_elim (Φ := fun g => cellInv ER (rd X Wt) (K g) g) (Finset.mem_union_right _ (dsem_mem c (by omega) (by omega))))

/-- The device's semaphores, at zero, are opened. -/
theorem open_all : iprop(records X Wt K ∗ unopened c ∗ Pipeline.ownSems0 osem c) ⊢ (|={Set.univ}=> opened c : sProp 𝕄) := by
  have h : ∀ n ∈ Finset.range 72, iprop(records X Wt K ∗ (openTok ER (gd c (4 + n)) ∗ semVal (gd c (4 + n)) 0))
      ⊢ (|={Set.univ}=> iprop(atPos ER (gd c (4 + n)) 0 ∅ 0 ∗ reached ER (gd c (4 + n)) 0) : sProp 𝕄) := by
    intro n hn
    have h1 := rec_own X Wt K c (Finset.mem_range.mp hn)
    iintro ⟨#HR, Ho, Hv⟩
    iapply (Rounds.cell_open ER (rd X Wt) (g := gd c (4 + n)) (Set.mem_univ (K (gd c (4 + n)))))
    isplitr
    · iapply h1; iexact HR
    isplitl [Ho]; · iexact Ho
    iexact Hv
  rw [own_zero]
  unfold unopened opened
  iintro ⟨#HR, Ho, Hv⟩
  iapply (bigSep_fupd (Finset.range 72) fun n => iprop(atPos ER (gd c (4 + n)) 0 ∅ 0 ∗ reached ER (gd c (4 + n)) 0))
  iapply (bigSep_with_persistent (R := records X Wt K) (Φ := fun n => iprop(openTok ER (gd c (4 + n)) ∗ semVal (gd c (4 + n)) 0)) h)
  isplitr; · iexact HR
  iapply big_zip
  isplitl [Ho]; · iexact Ho
  iexact Hv

/-! ## The first global step -/

/-- The launch element of the copies' protocol. -/
abbrev seedR : URounds (GSem nD τ sig) Bool := launchOf barCells dormCells allToks

/-- All of a resource with one device. -/
def atDev (d : Dev nD) (P : sProp 𝕄) (c : Dev nD) : sProp 𝕄 := if c = d then P else iprop(emp)
theorem atDev_all (d : Dev nD) (P : sProp 𝕄) : bigSep Finset.univ (atDev d P) = P := by
  rw [bigSep_univ_at _ d, bigSep_congr (s := Finset.univ.erase d) (Ψ := fun _ => (BI.emp : sProp 𝕄))
      fun c hc => by unfold atDev; rw [if_neg (Finset.ne_of_mem_erase hc)]; rfl, BI.bigSep_emp_const]
  unfold atDev
  rw [if_pos rfl]
  exact BI.equiv_iff.mp sep_emp

/-- What the protocol keeps with a device from the launch to the kernel. -/
def Tk : sProp 𝕄 := iprop((∃ K, records X Wt K) ∗ (atPos ER (cell .bar c) 0 ∅ 0 ∗ unopened c ∗ toks c) ∗ crs c)
/-- What the kernel's body is given of it. -/
def Xk : sProp 𝕄 := iprop((∃ K, records X Wt K) ∗ atPos ER (cell .bar c) 0 ∅ 0 ∗ opened c ∗ toks c ∗ crs c)

theorem talk_open : iprop(Tk X Wt c ∗ Pipeline.ownSems0 osem c ∗ levAts L lv) ⊢ (|={Set.univ}=> Xk X Wt c : sProp 𝕄) := by
  unfold Tk Xk
  iintro ⟨⟨⟨%K, #HR⟩, ⟨Hat, Hun, Ht⟩, Hc⟩, Hs, -⟩
  imod (open_all X Wt K c) $$ [Hun Hs] with Ho
  · isplitr; · iexact HR
    isplitl [Hun]; · iexact Hun
    iexact Hs
  imodintro
  isplitr; · iexists K; iexact HR
  isplitl [Hat]; · iexact Hat
  isplitl [Ho]; · iexact Ho
  isplitl [Ht]; · iexact Ht
  iexact Hc

theorem unscoped_zero : (unscopedSems0 c : sProp 𝕄) = semVal (cell .bar c) 0 := by
  unfold unscopedSems0
  rw [show (Finset.univ.filter fun sm : SemLoc sig => ¬ sm.isScoped .tc) = {SemLoc.reg barS} from by decide, BI.bigSep_singleton]
  rfl

/-- What rides beside the buffers up to the kernel, and after it. -/
def rest0 : sProp 𝕄 := iprop(Tk X Wt c ∗ (∃ r, prngReg c r) ∗ ∃ W, owes (c : Thread nD τ) (owe0 c) W)
def rest1 : sProp 𝕄 := iprop(semVal (cell .bar c) 0 ∗ ∃ W, owes (c : Thread nD τ) (0 : CellTallies nD τ sig Unit) W)

/-- The cells funded, and every token. -/
theorem fund_raw : iprop(bigSep barCells (fun g => (semVal g 0 : sProp 𝕄)) ∗ BI.own (ER seedR))
      ⊢ (|={Set.univ}=> ∃ κ : GSem nD τ sig → ℕ, ⌜Set.InjOn κ (barCells ∪ dormCells : Finset (GSem nD τ sig)) ∧ ∀ g ∈ barCells ∪ dormCells, κ g ∉ (∅ : Finset ℕ)⌝
          ∗ bigSep (barCells ∪ dormCells) (fun g => cellInv ER (rd X Wt) (κ g) g)
          ∗ bigSep barCells (fun g => reached ER g 0) ∗ bigSep barCells (fun g => atPos ER g 0 ∅ 0)
          ∗ bigSep dormCells (fun g => openTok ER g) ∗ bigSep allToks (fun x => dutyTok ER x.1 x.2.1 x.2.2) : sProp 𝕄) :=
  Rounds.fund_launch ER (rd X Wt) cells_disjoint (fun g _ h => h) allToks

theorem repack {Lv B C D T C' D' T' : sProp 𝕄} {P : (GSem nD τ sig → ℕ) → Prop} {A R : (GSem nD τ sig → ℕ) → sProp 𝕄}
    (hR : ∀ κ, iprop(A κ ∗ B ∗ Lv) ⊢ R κ) (hC : C ⊢ C') (hD : D ⊢ D') (hT : T ⊢ T') :
    iprop((|={Set.univ}=> ∃ κ : GSem nD τ sig → ℕ, ⌜P κ⌝ ∗ A κ ∗ B ∗ C ∗ D ∗ T) ∗ Lv) ⊢ (|={Set.univ}=> ∃ κ, R κ ∗ C' ∗ D' ∗ T') := by
  iintro ⟨H, HL⟩
  imod H with ⟨%κ, -, HA, HB, HC, HD, HT⟩
  imodintro
  iexists κ
  isplitl [HA HB HL]
  · iapply (hR κ)
    isplitl [HA]; · iexact HA
    isplitl [HB]; · iexact HB
    iexact HL
  isplitl [HC]; · iapply hC; iexact HC
  isplitl [HD]; · iapply hD; iexact HD
  iapply hT; iexact HT

/-- What the launch element makes: the records, and each device's position, rights to open and tokens. -/
def funded : sProp 𝕄 := iprop(∃ κ, records X Wt κ ∗ bigSep Finset.univ (fun c : Dev nD => atPos ER (cell .bar c) 0 ∅ 0) ∗ bigSep Finset.univ unopened ∗ bigSep Finset.univ toks)

theorem fund : iprop((bigSep Finset.univ (fun c : Dev nD => semVal (cell .bar c) 0) ∗ BI.own (ER seedR)) ∗ levAts L lv) ⊢ (|={Set.univ}=> funded X Wt : sProp 𝕄) := by
  have hR : ∀ κ : GSem nD τ sig → ℕ, iprop(bigSep (barCells ∪ dormCells) (fun g => cellInv ER (rd X Wt) (κ g) g) ∗ bigSep barCells (fun g => reached ER g 0) ∗ levAts L lv) ⊢ records X Wt κ := by
    intro κ; unfold records; exact .rfl
  have hat := Entails.of_eq (over_bar fun g => (atPos ER g 0 ∅ 0 : sProp 𝕄))
  have hopen : (bigSep dormCells (fun g => openTok ER g) : sProp 𝕄) ⊢ bigSep Finset.univ unopened :=
    Entails.of_eq ((over_dorm fun g => (openTok ER g : sProp 𝕄)).trans (bigSep_congr fun c _ => by unfold unopened; rfl))
  have h := repack (P := fun κ => Set.InjOn κ (barCells ∪ dormCells : Finset (GSem nD τ sig)) ∧ ∀ g ∈ barCells ∪ dormCells, κ g ∉ (∅ : Finset ℕ))
    hR hat hopen (toks_deal (F := F))
  rw [← over_bar fun g => (semVal g 0 : sProp 𝕄)]
  exact (sep_mono (fund_raw X Wt) .rfl).trans h

/-- The launch makes what rides beside the buffers, on every device at once. -/
theorem deal_all (ρ : Dev nD → PrngReg) :
    iprop((bigSep Finset.univ fun c : Dev nD => iprop(unscopedSems0 c ∗ owes (c : Thread nD τ) (owe0 c) ∅ ∗ Pipeline.launchCred owe0 c ∗ prngReg c (ρ c)
        ∗ atDev 0 (BI.own (ER seedR)) c)) ∗ levAts L lv)
      ⊢ (|={Set.univ}=> bigSep Finset.univ (rest0 X Wt) : sProp 𝕄) := by
  have hcore (c : Dev nD) : iprop(unscopedSems0 c ∗ owes (c : Thread nD τ) (owe0 c) ∅ ∗ Pipeline.launchCred owe0 c ∗ prngReg c (ρ c) ∗ atDev 0 (BI.own (ER seedR)) c)
      ⊢ (iprop((crs c ∗ (∃ r, prngReg c r) ∗ ∃ W, owes (c : Thread nD τ) (owe0 c) W) ∗ (semVal (cell .bar c) 0 ∗ atDev 0 (BI.own (ER seedR)) c)) : sProp 𝕄) := by
    rw [unscoped_zero]
    iintro ⟨Hus, HO, Hcr, Hp, HG⟩
    ihave Hc := (launch_crs (F := F) c) $$ Hcr
    isplitl [HO Hc Hp]
    · isplitl [Hc]; · iexact Hc
      isplitl [Hp]; · iexists (ρ c); iexact Hp
      iexists ∅; iexact HO
    isplitl [Hus]; · iexact Hus
    iexact HG
  have hall : (bigSep Finset.univ fun c : Dev nD => iprop(unscopedSems0 c ∗ owes (c : Thread nD τ) (owe0 c) ∅ ∗ Pipeline.launchCred owe0 c ∗ prngReg c (ρ c)
        ∗ atDev 0 (BI.own (ER seedR)) c))
      ⊢ (bigSep Finset.univ fun c : Dev nD => iprop((crs c ∗ (∃ r, prngReg c r) ∗ ∃ W, owes (c : Thread nD τ) (owe0 c) W)
        ∗ (semVal (cell .bar c) 0 ∗ atDev 0 (BI.own (ER seedR)) c)) : sProp 𝕄) := bigSep_mono fun c _ => hcore c
  have hend (κ : GSem nD τ sig → ℕ) (c : Dev nD) : iprop(records X Wt κ ∗ ((atPos ER (cell .bar c) 0 ∅ 0 ∗ unopened c ∗ toks c)
      ∗ (crs c ∗ (∃ r, prngReg c r) ∗ ∃ W, owes (c : Thread nD τ) (owe0 c) W))) ⊢ rest0 X Wt c := by
    unfold rest0 Tk
    iintro ⟨#HR, Hl, Hc, Hp, HO⟩
    isplitl [Hl Hc]
    · isplitr; · iexists κ; iexact HR
      isplitl [Hl]; · iexact Hl
      iexact Hc
    isplitl [Hp]; · iexact Hp
    iexact HO
  iintro ⟨H, Hlev⟩
  ihave H' := hall $$ H
  ihave H2 := big_unzip $$ H'; icases H2 with ⟨HB, H3⟩
  ihave H4 := big_unzip $$ H3; icases H4 with ⟨Hv, HG⟩
  ihave Hu := (Entails.of_eq (atDev_all (F := F) 0 (BI.own (ER seedR)))) $$ HG
  imod (fund X Wt) $$ [Hv Hu Hlev] with Hf
  · isplitr [Hlev]
    · isplitl [Hv]; · iexact Hv
      iexact Hu
    iexact Hlev
  imodintro
  unfold funded
  icases Hf with ⟨%κ, #HR, Hat, Hopen, Htok⟩
  iapply (bigSep_with_persistent (R := records X Wt κ) (Φ := fun c => iprop((atPos ER (cell .bar c) 0 ∅ 0 ∗ unopened c ∗ toks c)
      ∗ (crs c ∗ (∃ r, prngReg c r) ∗ ∃ W, owes (c : Thread nD τ) (owe0 c) W))) fun c _ => hend κ c)
  isplitr; · iexact HR
  iapply big_zip
  isplitr [HB]
  · iapply big_zip; isplitl [Hat]; · iexact Hat
    iapply big_zip; isplitl [Hopen]; · iexact Hopen
    iexact Htok
  · iexact HB

end Cert.KernelIdeal.Talk
-- ==== Proof.KernelIdealHost.lean ====
/-
  The table of device numbers that the host lines compute: entry `k` on device `c` is the device `k` places to the left.
-/
module

public import proofs.«01_k».proof.Proof.KernelIdealState
public import Idealize.ShloMosaic.Lib.StableHlo.RunRead

@[expose] public section
noncomputable section

namespace Cert.KernelIdeal.Talk

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## The host lines as functions of integers -/

/-- The places of the devices, as the first lines scatter them. -/
def placesV : IVec S32 32 :=
  Host.scatter scatter_S32_S32x1_S32_n_0_0_1 (fun _ b => b) (broadcastInDim S32 ![] bcast_S_S32 (constantI S_ 32 0#32))
    (broadcastInDim S32x1 ![0] bcast_S32_S32x1_0
      (select (cmpi .slt (fun i => lit0 (S32.rowMajor i)) (broadcastInDim S32 ![] bcast_S_S32 (constantI S_ 32 0#32)))
        (addi (fun i => lit0 (S32.rowMajor i)) (broadcastInDim S32 ![] bcast_S_S32 (constantI S_ 32 32#32)))
        (fun i => lit0 (S32.rowMajor i))))
    (iotaInDim S32 32 0)
/-- The device's own number. -/
def ownV (c : Dev nD) : IVec S_ 32 := Host.remui (Host.divui (constantI S_ 32 (Dev.word c)) (constantI S_ 32 1#32)) (constantI S_ 32 32#32)
/-- An index, moved into range. -/
def wrapV (x : IVec S_ 32) : IVec S1 32 :=
  broadcastInDim S1 ![] bcast_S_S1 (select (cmpi .slt x (constantI S_ 32 0#32)) (addi x (constantI S_ 32 32#32)) x)
/-- The entry of a table at an index. -/
def takeV (x : IVec S_ 32) (t : IVec S32 32) : IVec S_ 32 :=
  select (Host.reduce IntOp.andi (andi (cmpi .sge (wrapV x) (broadcastInDim S1 ![] bcast_S_S1 (constantI S_ 32 0#32))) (cmpi .sle (wrapV x) (constantI S1 32 31#32)))
      (constantI S_ 1 1#1) reducesTo_S1_S_d0 h_S_)
    (Host.gather gather_S32_S1_S__n_0_n_n_0_0_1 t (wrapV x)) (constantI S_ 32 2147483648#32)
/-- The distances to the left. -/
def leftV (x : IVec S_ 32) : IVec S32 32 := subi (broadcastInDim S32 ![] bcast_S_S32 x) (iotaInDim S32 32 0)
/-- The divisor, guarded against zero. -/
def divisorV (x : IVec S_ 32) : IVec S_ 32 := select (cmpi .eq (id x) (constantI S_ 32 0#32)) (constantI S_ 32 1#32) (id x)
/-- The remainder of the machine. -/
def remV (a : IVec S32 32) (x : IVec S_ 32) : IVec S32 32 := Host.remsi a (broadcastInDim S32 ![] bcast_S_S32 (divisorV x))
/-- The remainder with the divisor's sign. -/
def modV (a : IVec S32 32) (x : IVec S_ 32) : IVec S32 32 :=
  select (andi (cmpi .ne (cmpi .slt (remV a x) (broadcastInDim S32 ![] bcast_S_S32 (constantI S_ 32 0#32)))
        (broadcastInDim S32 ![] bcast_S_S32 (cmpi .slt (divisorV x) (constantI S_ 32 0#32))))
      (cmpi .ne (remV a x) (broadcastInDim S32 ![] bcast_S_S32 (constantI S_ 32 0#32))))
    (addi (remV a x) (broadcastInDim S32 ![] bcast_S_S32 (divisorV x))) (remV a x)
/-- Indices, moved into range. -/
def wrapsV (a : IVec S32 32) : IVec S32x1 32 :=
  broadcastInDim S32x1 ![0] bcast_S32_S32x1_0
    (select (cmpi .slt a (broadcastInDim S32 ![] bcast_S_S32 (constantI S_ 32 0#32))) (addi a (broadcastInDim S32 ![] bcast_S_S32 (constantI S_ 32 32#32))) a)
/-- The entries of a table at many indices. -/
def takesV (a t : IVec S32 32) : IVec S32 32 :=
  select (Host.reduce IntOp.andi (andi (cmpi .sge (wrapsV a) (broadcastInDim S32x1 ![] bcast_S_S32x1 (constantI S_ 32 0#32)))
        (cmpi .sle (wrapsV a) (broadcastInDim S32x1 ![0, 1] bcast_S1x1_S32x1_0_1 (broadcastInDim S1x1 ![1] bcast_S1_S1x1_1 (constantI S1 32 31#32)))))
      (constantI S_ 1 1#1) reducesTo_S32x1_S32_d1 h_S_)
    (Host.gather gather_S32_S32x1_S32_n_0_n_n_0_1_1 t (wrapsV a)) (broadcastInDim S32 ![] bcast_S_S32 (constantI S_ 32 2147483648#32))

/-! ## The lines read back -/

section Reads
variable (V : Valuation τ sig (Elt F))

theorem read_places (c : Dev nD) : StableHlo.after (hostOps0 c) V (Proc.devRef .tc main_v9) = (placesV : IVec S32 32) := by after_reads_simp; rfl
theorem read_own (c : Dev nD) : StableHlo.after (hostOps0 c) V (Proc.devRef .tc main_v13) = (ownV c : IVec S_ 32) := by after_reads_simp; rfl
theorem read_cycle (c : Dev nD) : StableHlo.after (hostOps0 c) V (Proc.devRef .tc main_c) = ((fun i => lit0 (S32.rowMajor i)) : IVec S32 32) := by after_reads_simp; rfl
theorem read_take : StableHlo.after hostOps0_1 V (Proc.devRef .tc main_v14) = takeV (V (Proc.devRef .tc main_v13)) (V (Proc.devRef .tc main_v9)) := by
  after_reads_simp; rfl
theorem read_left : StableHlo.after hostOps0_2 V (Proc.devRef .tc main_v17) = leftV (V (Proc.devRef .tc main_v14)) := by after_reads_simp; rfl
theorem read_thirtytwo : StableHlo.after hostOps0_2 V (Proc.devRef .tc main_c_5) = (constantI S_ 32 32#32 : IVec S_ 32) := by after_reads_simp
theorem read_mod : StableHlo.after hostOps0_3 V (Proc.devRef .tc main_v18) = modV (V (Proc.devRef .tc main_v17)) (V (Proc.devRef .tc main_c_5)) := by
  after_reads_simp [StableHlo.TRef.ofBuf_toBuf]
  rfl
theorem read_takes : StableHlo.after hostOps0_4 V (Proc.devRef .tc main_v19) = takesV (V (Proc.devRef .tc main_v18)) (V (Proc.devRef .tc main_c)) := by
  after_reads_simp; rfl

end Reads

/-! ## Their values -/

/-- A table of words given by its entries. -/
def tab (f : Fin 32 → Fin 32) : IVec S32 32 := fun i => word (f (i 0))
/-- One word. -/
def one (a : Fin 32) : IVec S_ 32 := fun _ => word a

theorem tab_ext {a b : IVec S32 32} (h : ∀ k : Fin 32, a (ix1 k) = b (ix1 k)) : a = b := funext fun i => by
  have e : i = ix1 (i 0) := funext fun x => by fin_cases x; rfl
  rw [e]; exact h _
theorem one_ext {a b : IVec S_ 32} (h : a (fun x => x.elim0) = b (fun x => x.elim0)) : a = b := funext fun i => by
  have e : i = fun x => x.elim0 := funext fun x => x.elim0
  rw [e]; exact h

theorem places_eq : placesV = tab pos := tab_ext (by decide +kernel)
theorem own_eq (c : Dev nD) : ownV c = one c := one_ext ((by decide +kernel : ∀ c : Fin 32, ownV c (fun x => x.elim0) = one c (fun x => x.elim0)) c)
theorem cycle_eq : ((fun i => lit0 (S32.rowMajor i)) : IVec S32 32) = tab cyc := tab_ext (by decide +kernel)
theorem take_eq (c : Dev nD) : takeV (one c) (tab pos) = one (pos c) :=
  one_ext ((by decide +kernel : ∀ c : Fin 32, takeV (one c) (tab pos) (fun x => x.elim0) = one (pos c) (fun x => x.elim0)) c)
theorem mod_eq (p : Fin 32) : modV (leftV (one p)) (constantI S_ 32 32#32) = tab fun k => p - k :=
  tab_ext ((by decide +kernel : ∀ p k : Fin 32, modV (leftV (one p)) (constantI S_ 32 32#32) (ix1 k) = tab (fun k => p - k) (ix1 k)) p)
theorem takes_eq (p : Fin 32) : takesV (tab fun k => p - k) (tab cyc) = tab fun k => cyc (p - k) :=
  tab_ext ((by decide +kernel : ∀ p k : Fin 32, takesV (tab fun k => p - k) (tab cyc) (ix1 k) = tab (fun k => cyc (p - k)) (ix1 k)) p)

variable (m : (ℓ : Loc nD τ sig) → Buf (Elt F) ℓ) (c : Dev nD)

/-- The table the kernel reads: the devices `0, 1, … 31` places to the left. -/
theorem V5_ids : V5 m c main_v19 = (idsF c : (cc0_stg0_0 : Ref sig .tc).ty.Contents (Elt F)) := by
  have h5 : V5 m c main_v19 = takesV (V4 m c main_v18) (V4 m c main_c) := read_takes _
  have h4 : V4 m c main_v18 = modV (V3 m c main_v17) (V3 m c main_c_5) := read_mod _
  have h3 : V3 m c main_v17 = leftV (V2 m c main_v14) := read_left _
  have h3' : V3 m c main_c_5 = (constantI S_ 32 32#32 : IVec S_ 32) := read_thirtytwo _
  have h2 : V2 m c main_v14 = takeV (V1 m c main_v13) (V1 m c main_v9) := read_take _
  have h1 : V1 m c main_v13 = (one c : IVec S_ 32) := (read_own _ c).trans (own_eq c)
  have h1' : V1 m c main_v9 = (tab pos : IVec S32 32) := (read_places _ c).trans places_eq
  have h0 : V4 m c main_c = (tab cyc : IVec S32 32) :=
    (V4_of m c main_c (by decide)).trans <| (V3_of m c main_c (by decide)).trans <| (V2_of m c main_c (by decide)).trans <|
      (read_cycle _ c).trans cycle_eq
  rw [h5, h4, h3, h3', h2, h1, h1', h0, take_eq, mod_eq, takes_eq]
  funext i
  have e : ∀ k : Fin 32, word (cyc (pos c - k)) = word (idOf c k.val) := fun k =>
    congrArg (fun j : Fin 32 => word (cyc (pos c - j))) (Fin.ext (Nat.mod_eq_of_lt k.isLt).symm : k = Fin.ofNat 32 k.val)
  exact e (i 0)

theorem V5_main_arg0 : V5 m c main_arg0 = m ((c : Thread nD τ).loc main_arg0) :=
  (V5_of m c main_arg0 (by decide)).trans <| (V4_of m c main_arg0 (by decide)).trans <| (V3_of m c main_arg0 (by decide)).trans <|
    (V2_of m c main_arg0 (by decide)).trans <| V1_of m c main_arg0 (by decide)
theorem V5_main_arg1 : V5 m c main_arg1 = m ((c : Thread nD τ).loc main_arg1) :=
  (V5_of m c main_arg1 (by decide)).trans <| (V4_of m c main_arg1 (by decide)).trans <| (V3_of m c main_arg1 (by decide)).trans <|
    (V2_of m c main_arg1 (by decide)).trans <| V1_of m c main_arg1 (by decide)

end Cert.KernelIdeal.Talk
-- ==== Proof.KernelIdealRegion.lean ====
/- The kernel's region, part 1: the block a window of the call moves is the whole of its array, what the call's four staging buffers
   hold when the body starts, and the proof data of the region. -/
module

public import proofs.«01_k».proof.Proof.KernelIdealTokens
public import proofs.«01_k».proof.Proof.KernelIdealHost
public import proofs.«01_k».proof.Proof.Gen.KernelIdeal.Points

@[expose] public section
noncomputable section

namespace Cert.KernelIdeal.Talk

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

open Idealize.ShloMosaic.Pipeline (Dat)

attribute [local irreducible] sl peer idOf pos cyc travels pt

/-! ## The windows' blocks -/

section Blocks
variable (c : Dev nD)

theorem blk_0 (f : (main_v19 : Ref sig .tc).ty.Contents (Elt F)) : (win0_0.blk t0_0).view.read (Elt F) f = f := by
  funext i
  show f _ = f i
  congr 1
  funext a
  match a with
  | ⟨0, _⟩ => exact Fin.ext (by show 0 * 32 + 1 * (i 0).val = (i 0).val; omega)
theorem blk_1 (f : (main_arg0 : Ref sig .tc).ty.Contents (Elt F)) : (win0_1.blk t0_0).view.read (Elt F) f = f := by
  funext i
  show f _ = f i
  congr 1
  funext a
  match a with
  | ⟨0, _⟩ => exact Fin.ext (by show 0 * 128 + 1 * (i 0).val = (i 0).val; omega)
  | ⟨1, _⟩ => exact Fin.ext (by show 0 * 4096 + 1 * (i 1).val = (i 1).val; omega)
theorem blk_2 (f : (main_arg1 : Ref sig .tc).ty.Contents (Elt F)) : (win0_2.blk t0_0).view.read (Elt F) f = f := by
  funext i
  show f _ = f i
  congr 1
  funext a
  match a with
  | ⟨0, _⟩ => exact Fin.ext (by show 0 * 4096 + 1 * (i 0).val = (i 0).val; omega)
  | ⟨1, _⟩ => exact Fin.ext (by show 0 * 256 + 1 * (i 1).val = (i 1).val; omega)
theorem blk_3 (f : (main_v20 : Ref sig .tc).ty.Contents (Elt F)) : (win0_3.blk t0_0).view.read (Elt F) f = f := by
  funext i
  show f _ = f i
  congr 1
  funext a
  match a with
  | ⟨0, _⟩ => exact Fin.ext (by show 0 * 4096 + 1 * (i 0).val = (i 0).val; omega)
  | ⟨1, _⟩ => exact Fin.ext (by show 0 * 256 + 1 * (i 1).val = (i 1).val; omega)

end Blocks

/-! ## The proof data -/

variable (m : (ℓ : Loc nD τ sig) → Buf (Elt F) ℓ)

/-- Device `p`'s block of `x`, as it lies in memory at launch. -/
def xAt (p : Dev nD) : Vec F S128x4096 .bf16 := m ((p : Thread nD τ).loc main_arg0)
/-- Device `p`'s block of `w`. -/
def wAt (p : Dev nD) : Vec F S4096x256 .bf16 := m ((p : Thread nD τ).loc main_arg1)

/-- The three scratch buffers, at some contents. -/
def scr (c : Dev nD) : sProp 𝕄 := iprop((∃ f, commPts c f) ∗ (∃ f, hbWhole c f) ∗ ∃ f, hiPts c f)
/-- What the body starts from beside its staging buffers and its dues. -/
def phi0 (c : Dev nD) : sProp 𝕄 := iprop(Xk (xAt m) (wAt m) c ∗ scr (F := F) c ∗ ∃ r, prngReg c r)
/-- What it ends with: its scratch buffers, and every semaphore cell of its own back at zero. -/
def phi1 (c : Dev nD) : sProp 𝕄 := iprop(scr (F := F) c ∗ (∃ r, prngReg c r) ∗ Pipeline.ownSems0 osem c ∗ semVal (cell .bar c) 0)

/-- The region's proof data: the arrays at what the host stretches leave, the input blocks kept, the result block at the
    quantised product, the dues of the first point all paid by the last. -/
def dats (_ : Fin 1) (c : Dev nD) : Dat τ (Elt F) Unit ℕ UU ℕ cfg0 c where
  A w := V5 m c (Pipeline.arrRef spec0 w)
  after w _ := match w with
    | ⟨0, _⟩ => idsF c
    | ⟨1, _⟩ => xAt m c
    | ⟨2, _⟩ => wAt m c
    | ⟨3, _⟩ => finF (xAt m) (wAt m) c
  Φ t := match t with
    | ⟨0, _⟩ => phi0 m c
    | ⟨_ + 1, _⟩ => phi1 (F := F) c
  q _ := fullShare
  owed t := match t with
    | ⟨0, _⟩ => owe0 c
    | ⟨_ + 1, _⟩ => 0

section Before
variable (c : Dev nD)

theorem before_0 (d) : (dats m 0 c).before 0 t0_0 d = idsF c := by
  unfold Dat.before; rw [if_pos (fetch0_0 t0_0)]
  exact (blk_0 _).trans (V5_ids m c)
theorem before_1 (d) : (dats m 0 c).before 1 t0_0 d = xAt m c := by
  unfold Dat.before; rw [if_pos (fetch0_1 t0_0)]
  exact (blk_1 _).trans (V5_main_arg0 m c)
theorem before_2 (d) : (dats m 0 c).before 2 t0_0 d = wAt m c := by
  unfold Dat.before; rw [if_pos (fetch0_2 t0_0)]
  exact (blk_2 _).trans (V5_main_arg1 m c)

/-- The result array ends at what the body left in its staging buffer. -/
theorem arr_out : (dats m 0 c).arrAt 3 cfg0.N = finF (xAt m) (wAt m) c := by
  refine (dats m 0 c).arrAt_eq_of_cover 3 (finF (xAt m) (wAt m) c) (fun t _ => ?_) fun i => ⟨t0_0, flush0_3 _, ?_⟩
  · obtain rfl := fin_N0 t
    exact (blk_3 _).symm
  · show i ∈ ((View.whole main_v20).slice (win0_3.rect t0_0)).set
    rw [View.set_slice_whole, Rect.mem_set_unit]
    have h0 : (i 0).val < 4096 := (i 0).isLt
    have h1 : (i 1).val < 256 := (i 1).isLt
    intro a
    match a with
    | ⟨0, _⟩ => exact ⟨by show 0 * 4096 ≤ (i 0).val; omega, by show (i 0).val < 0 * 4096 + 4096; omega⟩
    | ⟨1, _⟩ => exact ⟨by show 0 * 256 ≤ (i 1).val; omega, by show (i 1).val < 0 * 256 + 256; omega⟩

end Before

/-! ## The body -/

/-- A staging buffer owned at `v` is its points-to at `v`. -/
theorem owned_whole (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) ((c : Thread nD τ).loc b), ⌜f = v⌝ ∗ (((c : Thread nD τ).loc b) ↦{fullShare} f)) := by
  unfold owns; simp only [Memref.view_whole, View.read_whole, View.set_whole]

abbrev stg (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

/-- What the pipeline hands the body, -/
def given (c : Dev nD) : sProp 𝕄 :=
  iprop(phi0 m c ∗ (dats m 0 c).owesAt () t0_0.castSucc
    ∗ (∃ d, stg c cc0_stg0_0 ((dats m 0 c).before 0 t0_0 d)) ∗ (∃ d, stg c cc0_stg1_0 ((dats m 0 c).before 1 t0_0 d))
    ∗ (∃ d, stg c cc0_stg2_0 ((dats m 0 c).before 2 t0_0 d)) ∗ (∃ d, stg c cc0_stg3_0 ((dats m 0 c).before 3 t0_0 d)))
/-- and what it takes back. -/
def wanted (c : Dev nD) : sProp 𝕄 :=
  iprop(phi1 (F := F) c ∗ (dats m 0 c).owesAt () t0_0.succ ∗ stg c cc0_stg0_0 (idsF c) ∗ stg c cc0_stg1_0 (xAt m c) ∗ stg c cc0_stg2_0 (wAt m c)
    ∗ stg c cc0_stg3_0 (finF (xAt m) (wAt m) c))

/-- What is handed is what the body enters with, the generator register kept aside. -/
theorem given_enter (c : Dev nD) : given m c ⊢ iprop((∃ K, records (xAt m) (wAt m) K) ∗ enter (xAt m) (wAt m) c ∗ ∃ r, prngReg c r) := by
  unfold given phi0 Xk scr Dat.owesAt Pipeline.owesWithin
  iintro ⟨⟨⟨HR, Hg⟩, Hs, Hp⟩, ⟨%W, %hW, HO⟩, ⟨%d0, %g0, %h0, H0⟩, ⟨%d1, %g1, %h1, H1⟩, ⟨%d2, %g2, %h2, H2⟩, ⟨%d3, %g3, %h3, H3⟩⟩
  obtain rfl : g0 = idsF c := h0.trans (before_0 m c d0)
  obtain rfl : g1 = xAt m c := h1.trans (before_1 m c d1)
  obtain rfl : g2 = wAt m c := h2.trans (before_2 m c d2)
  isplitl [HR]; · iexact HR
  isplitr [Hp]
  · iapply (enter_intro (xAt m) (wAt m) c)
    isplitl [Hg]; · iexact Hg
    isplitl [Hs]; · iexact Hs
    isplitl [H0]; · iexact H0
    isplitl [H1]; · iexact H1
    isplitl [H2]; · iexact H2
    isplitl [H3]; · iexists g3; iexact H3
    iexists W
    iexact HO
  · iexact Hp

/-- What the body leaves is what is taken back. -/
theorem leave_wanted (c : Dev nD) : iprop(leave (xAt m) (wAt m) c ∗ ∃ r, prngReg c r) ⊢ wanted m c := by
  have hb : (iprop(∃ f, hbPts c f) : sProp 𝕄) ⊢ iprop(∃ f, hbWhole c f) := by
    iintro ⟨%f, H⟩; iexists f; iapply (Entails.of_eq (hb_whole c f)); iexact H
  unfold wanted phi1 leave scr Dat.owesAt Pipeline.owesWithin
  rw [own_zero]
  iintro ⟨⟨H0, H1, H2, H3, Hc, Hb, Hh, Hbar, Hs, ⟨%W, HO⟩⟩, Hp⟩
  ihave Hb := hb $$ Hb
  isplitl [Hc Hb Hh Hp Hs Hbar]
  · isplitl [Hc Hb Hh]
    · isplitl [Hc]; · iexact Hc
      isplitl [Hb]; · iexact Hb
      iexact Hh
    isplitl [Hp]; · iexact Hp
    isplitl [Hs]; · iexact Hs
    iexact Hbar
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  iexists _; isplitr; · (ipureintro; rfl)
  iexact H3

attribute [local irreducible] cc0_body in
set_option maxRecDepth 40000 in
/-- The body meets its obligation. -/
theorem body_ok (c : Dev nD) : Pipeline.BodyObligation (dats m 0 c) (defs₀ (F := F)) 𝒱₀ () Set.univ := fun t => by
  rw [fin_N0 t]
  rw [bigSep_W0, bigSep_W0]
  simp only [owned_whole]
  show given m c ⊢ wp frame (wpE (defs₀ (F := F)) 𝒱₀ c none) Set.univ
    (cc0_body idsM (Memref.isWhole_whole _) xM (Memref.isWhole_whole _) wM (Memref.isWhole_whole _) oM (Memref.isWhole_whole _) commM (Memref.isWhole_whole _)
      cc0_scratch1 cc0_scratch2 cc0_scratch3 cc0_scratch4 hbM (Memref.isWhole_whole _) hiM (Memref.isWhole_whole _) cc0_scratch7 cc0_scratch8 : TProg F PUnit)
    (fun _ => wanted m c)
  iintro H
  ihave H := (given_enter m c) $$ H
  icases H with ⟨⟨%K, HR⟩, He, Hp⟩
  iapply (body_sound (xAt m) (wAt m) K c fun _ => wanted m c)
  isplitl [HR]; · iexact HR
  isplitl [He]; · iexact He
  iintro Hl
  iapply (leave_wanted m c)
  isplitl [Hl]; · iexact Hl
  iexact Hp

end Cert.KernelIdeal.Talk
-- ==== Proof.KernelIdealLaunch.lean ====
/- The kernel's region, part 2, and the run: every device's launch, its host stretches, the region, and what the final memory holds. -/
module

public import proofs.«01_k».proof.Proof.KernelIdealRegion
public import proofs.«01_k».proof.Proof.Gen.KernelIdeal.Regions
public import Idealize.ShloMosaic.Lib.Pipeline.RegionTalk

@[expose] public section
noncomputable section

namespace Cert.KernelIdeal.Talk

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

open Idealize.ShloMosaic.Pipeline (Dat Seg)

attribute [local irreducible] sl peer idOf pos cyc travels pt

variable (m : (ℓ : Loc nD τ sig) → Buf (Elt F) ℓ) (ρ : Dev nD → PrngReg)

/-! ## The region's record -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What the region leaves in the one buffer it may change. -/
def outs : Outs (F := F) := fun _ r c => Function.update (V5 m c) (Proc.devRef .tc main_v20) (finF (xAt m) (wAt m) c) (Proc.devRef .tc r)
theorem outs_v20 (c : Dev nD) : outs m 6 main_v20 c = finF (xAt m) (wAt m) c := Function.update_self _ _ _
theorem V6_v20 (c : Dev nD) : V6 m (outs m) c (Proc.devRef .tc main_v20) = finF (xAt m) (wAt m) c :=
  (Function.update_self _ _ _).trans (outs_v20 m c)

/-- What a device owes when the body starts stands on cells that carry a level above zero. -/
theorem owe0_lv {c : Dev nD} {g : GSem nD τ sig} {u : Unit} (h : 0 < owe0 c g u) : u ∈ L g ∧ (0 : ℕ) < lv g u := by
  have hc : ∀ {ch : Ch} (_ : ch.ok) (p : Dev nD), 0 < chLv ch → u ∈ L (cell ch p) ∧ (0 : ℕ) < lv (cell ch p) u := fun hk p hp =>
    ⟨by rw [show L (cell _ p) = {()} from L_tc p _]; exact Finset.mem_singleton_self _, by rw [lv_cell hk]; exact hp⟩
  have hb : ∀ p : Dev nD, 0 < (tallyAt (cell .bar p) () 1 : CellTallies nD τ sig Unit) g u → g = cell .bar p := fun p h => by
    rw [tallyAt_apply] at h
    split at h
    · next hg => exact hg.1
    · exact absurd h (Nat.lt_irrefl 0)
  have h' : 0 < owe c 0 0 0 g u + (tallyAt (cell .bar (peer true c)) () 1 : CellTallies nD τ sig Unit) g u
      + (tallyAt (cell .bar (peer false c)) () 1 : CellTallies nD τ sig Unit) g u := h
  rcases Nat.add_pos_iff_pos_or_pos.mp h' with h | h
  · rcases Nat.add_pos_iff_pos_or_pos.mp h with h | h
    · rcases owe_pos h with ⟨i, -, hi, rfl⟩ | ⟨i, -, hi, rfl⟩ | ⟨j, -, hj, rfl⟩
      · exact hc (ch := .rcv true i) hi _ (by show 0 < 2 + i; omega)
      · exact hc (ch := .rcv false i) hi _ (by show 0 < 2 + i; omega)
      · exact hc (ch := .hr j) hj _ (by show 0 < 100 + j; omega)
    · rw [hb _ h]; exact hc (ch := .bar) trivial _ (by decide)
  · rw [hb _ h]; exact hc (ch := .bar) trivial _ (by decide)

theorem owed_lv (c : Dev nD) (t : Fin ((Pipeline.pin (pcfgs (F := F)) adm 0).N + 1)) (g : GSem nD τ sig) (i : Unit)
    (h : 0 < (dats m 0 c).owed t g i) : i ∈ L g ∧ (0 : ℕ) < lv g i := by
  match t, h with
  | ⟨0, _⟩, h => exact owe0_lv h
  | ⟨_ + 1, _⟩, h => exact absurd h (Nat.lt_irrefl 0)

/-- The windows' own cells carry level zero. -/
theorem staging_lv : ∀ (w : Fin 4) (s : Fin (win0 w).nbuf), chLv (chOf (.dma ((win0 w).sem s))) = 0 := by decide

/-- What the talk leaves beside the body's own cells. -/
def barDone (c : Dev nD) : sProp 𝕄 := semVal (cell .bar c) 0

theorem region_in (c : Dev nD) : iprop(Pipeline.scopedRest (Pipeline.pin (pcfgs (F := F)) adm 0).spec c ∗ (∃ r, prngReg c r)
      ∗ StableHlo.held (c.tc : Thread nD τ) ∅ (V5 m c) ∗ Xk (xAt m) (wAt m) c) ⊢ (dats m 0 c).Φ 0 := by
  rw [show (dats m 0 c).Φ 0 = phi0 m c from rfl]
  unfold phi0 scr
  iintro ⟨Hs, Hp, -, HX⟩
  ihave Hs := (Entails.of_eq (scopedRest0_eq (Ix := Unit) (Val := Elt F) (Name := ℕ) (U := UU) (Lvl := ℕ) c)) $$ Hs
  isplitl [HX]; · iexact HX
  isplitl [Hs]; · iexact Hs
  iexact Hp

theorem region_out (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V6 m (outs m) c) ∗ Pipeline.ownSems0 osem c ∗ barDone c) := by
  rw [show (dats m 0 c).Φ (Fin.last _) = phi1 (F := F) c from rfl]
  unfold phi1 scr barDone
  iintro ⟨Hs, Hp, Ho, Hb⟩
  isplitl [Hs]
  · iapply (Entails.of_eq (scopedRest0_eq (Ix := Unit) (Val := Elt F) (Name := ℕ) (U := UU) (Lvl := ℕ) c).symm)
    iexact Hs
  isplitl [Hp]; · iexact Hp
  isplitr
  · unfold StableHlo.held; rw [bigSep_empty]; iempintro
  isplitl [Ho]; · iexact Ho
  iexact Hb

theorem arrays_enter (c : Dev nD) (w : Fin 4) : (dats m 0 c).arrAt w 0 = V5 m c (Pipeline.arrRef spec0 w) := rfl

theorem kept (c : Dev nD) (r : Ref sig .tc) (h : r ∉ ([main_v20] : List (Ref sig .tc))) :
    V5 m c (Proc.devRef .tc r) = V6 m (outs m) c (Proc.devRef .tc r) := (V6_of m (outs m) c r h).symm
theorem leave_0 (c : Dev nD) : (dats m 0 c).arrAt 0 cfg0.N = V5 m c (Proc.devRef .tc main_v19) := (dats m 0 c).arrAt_in 0 rfl _
theorem leave_1 (c : Dev nD) : (dats m 0 c).arrAt 1 cfg0.N = V5 m c (Proc.devRef .tc main_arg0) := (dats m 0 c).arrAt_in 1 rfl _
theorem leave_2 (c : Dev nD) : (dats m 0 c).arrAt 2 cfg0.N = V5 m c (Proc.devRef .tc main_arg1) := (dats m 0 c).arrAt_in 2 rfl _

theorem arrays_leave (c : Dev nD) (w : Fin 4) : (dats m 0 c).arrAt w cfg0.N = V6 m (outs m) c (Pipeline.arrRef spec0 w) := by
  match w with
  | 0 => exact (leave_0 m c).trans (kept m c main_v19 (by decide))
  | 1 => exact (leave_1 m c).trans (kept m c main_arg0 (by decide))
  | 2 => exact (leave_2 m c).trans (kept m c main_arg1 (by decide))
  | 3 => exact (arr_out m c).trans (V6_v20 m c).symm

/-- The arrays the region's windows stand on, and the buffers that ride past it. -/
abbrev arrs : Finset (DevRef τ sig) := Pipeline.arrRefs (τ := τ) (pcfgs (F := F) 0).spec
abbrev past : Finset (DevRef τ sig) := Pipeline.ucRefs τ sig \ arrs (F := F)

/-- The region changes none of the buffers that ride past it. -/
theorem past_same (c : Dev nD) : ∀ b ∈ past (F := F) \ ∅, V6 m (outs m) c b = V5 m c b := fun b hb => by
  have hb' : b ∉ arrs (F := F) := (Finset.mem_sdiff.mp (Finset.mem_sdiff.mp hb).1).2
  refine Function.update_of_ne ?_ _ _
  rintro rfl
  refine hb' ?_
  unfold arrs Pipeline.arrRefs
  exact Finset.mem_map_of_mem _ (Finset.mem_image_of_mem _ (Finset.mem_univ (3 : Fin 4)))

set_option backward.isDefEq.respectTransparency.types false in
/-- The region: entered with every unscoped buffer at what the host stretches left, left with the result at the quantised product. -/
def reg : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    ∅ (past (F := F)) (Finset.empty_subset _) kitP rfl (fun c => (body_ok m c).loose)
    (fun _ => 0) owe0 (fun _ => (zero_add _).symm) (fun _ => rfl) (fun _ => rfl) (fun c w => by unfold Dat.share; split <;> rfl)
    (V5 m) (V6 m (outs m)) (past_same m)
    (Tk (xAt m) (wAt m)) barDone (Xk (xAt m) (wAt m)) barDone (talk_open (xAt m) (wAt m)) (region_in m) (region_out m)
    (fun c => by iintro H; imodintro; iexact H)
    (fun _ => 0)
    ⟨fun c w s => by rw [L_tc]; exact Finset.mem_singleton_self _, fun c w s => Nat.le_of_eq (staging_lv w s), fun c t g i h => owed_lv m c t g i h⟩
    (fun _ => iprop(emp))
    (arrays_enter m) (arrays_leave m)

end Cert.KernelIdeal.Talk
-- ==== Proof.KernelIdealRun.lean ====
/- The run: from any memory with zero counters every weakly fair execution on the 32 devices ends, the arguments as launched, the
   results at the quantised product, every counter at zero. -/
module

public import proofs.«01_k».proof.Proof.KernelIdealLaunch

@[expose] public section
noncomputable section

namespace Cert.KernelIdeal.Talk

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

open Idealize.ShloMosaic.Pipeline (Dat Seg)

attribute [local irreducible] sl peer idOf pos cyc travels pt

variable (m : (ℓ : Loc nD τ sig) → Buf (Elt F) ℓ) (ρ : Dev nD → PrngReg)

/-- What rides beside the buffers before and after the region. -/
def rests : Fin 2 → Dev nD → sProp 𝕄
  | 0 => rest0 (xAt m) (wAt m)
  | 1 => rest1

theorem arrs_sub : arrs (F := F) ⊆ Pipeline.ucRefs τ sig := Pipeline.arrRefs_sub_ucRefs _ winFacts0.arr_unscoped

theorem region_pre (c : Dev nD) : iprop(StableHlo.held (c : Thread nD τ) (Pipeline.ucRefs τ sig) (V5 m c) ∗ rests m 0 c) ⊢ (reg m).pre c := by
  show _ ⊢ iprop(StableHlo.held (c.tc : Thread nD τ) (arrs (F := F)) (V5 m c) ∗ (∃ r, prngReg c r)
    ∗ (StableHlo.held (c.tc : Thread nD τ) (past (F := F)) (V5 m c) ∗ emp) ∗ Tk (xAt m) (wAt m) c ∗ ∃ Wd, owes (c : Thread nD τ) (0 + owe0 c) Wd)
  rw [StableHlo.held_sub_split (c.tc : Thread nD τ) (arrs_sub (F := F)) (V5 m c), zero_add]
  unfold rests rest0
  iintro ⟨⟨Ha, Hp⟩, HT, Hr, HO⟩
  isplitl [Ha]; · iexact Ha
  isplitl [Hr]; · iexact Hr
  isplitl [Hp]
  · isplitl [Hp]; · iexact Hp
    iempintro
  isplitl [HT]; · iexact HT
  iexact HO

/-- What a device ends with. -/
def ends (c : Dev nD) : sProp 𝕄 := iprop(StableHlo.held (c : Thread nD τ) (Pipeline.ucRefs τ sig) (V6 m (outs m) c) ∗ semVal (cell .bar c) 0)

theorem region_post (c : Dev nD) : (reg m).post c ⊢ iprop(ends m c ∗ ∃ W, owes (c.tc : Thread nD τ) (0 : CellTallies nD τ sig Unit) W) := by
  show iprop(StableHlo.held (c.tc : Thread nD τ) (arrs (F := F)) (V6 m (outs m) c) ∗ (∃ r, prngReg c r)
    ∗ (StableHlo.held (c.tc : Thread nD τ) (past (F := F)) (V6 m (outs m) c) ∗ emp) ∗ barDone c
    ∗ ∃ Wd, owes (c : Thread nD τ) (0 : CellTallies nD τ sig Unit) Wd) ⊢ _
  unfold ends barDone
  rw [StableHlo.held_sub_split (c.tc : Thread nD τ) (arrs_sub (F := F)) (V6 m (outs m) c)]
  iintro ⟨Ha, -, ⟨Hp, -⟩, Hb, HO⟩
  isplitr [HO]
  · isplitr [Hb]
    · isplitl [Ha]; · iexact Ha
      iexact Hp
    iexact Hb
  iexact HO

/-- The launch deals every device its buffers and what rides beside them. -/
theorem launch_all : iprop((bigSep Finset.univ fun c : Dev nD => iprop(unscopedBufs c (fun b => m ((c.tc : Thread nD τ).loc b)) ∗ unscopedSems0 c
      ∗ owes (c.tc : Thread nD τ) (owe0 c) ∅ ∗ Pipeline.launchCred owe0 c ∗ prngReg c (ρ c) ∗ atDev 0 (BI.own (ER seedR)) c)) ∗ levAts L lv)
    ⊢ (|={Set.univ}=> bigSep Finset.univ fun c : Dev nD => iprop(StableHlo.held (c : Thread nD τ) (Pipeline.ucRefs τ sig) (V0 m c) ∗ rests m 0 c) : sProp 𝕄) := by
  have hsplit : (bigSep Finset.univ fun c : Dev nD => iprop(unscopedBufs c (fun b => m ((c.tc : Thread nD τ).loc b)) ∗ unscopedSems0 c
        ∗ owes (c.tc : Thread nD τ) (owe0 c) ∅ ∗ Pipeline.launchCred owe0 c ∗ prngReg c (ρ c) ∗ atDev 0 (BI.own (ER seedR)) c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (owe0 c) ∅ ∗ Pipeline.launchCred owe0 c
            ∗ prngReg c (ρ c) ∗ atDev 0 (BI.own (ER seedR)) c)) : sProp 𝕄) := by
    rw [← bigSep_sep']
    exact bigSep_mono fun c _ => by
      rw [← Pipeline.unscopedBufs_held (Ix := Unit) (Name := ℕ) (U := UU) (Lvl := ℕ) c (V0 m c)]; exact BI.Entails.refl _
  iintro ⟨H, Hl⟩
  ihave H := hsplit $$ H
  icases H with ⟨Hh, Hr⟩
  imod (deal_all (xAt m) (wAt m) ρ) $$ [Hr Hl] with HE
  · isplitl [Hr]; · iexact Hr
    iexact Hl
  imodintro
  rw [bigSep_sep']
  isplitl [Hh]; · iexact Hh
  iexact HE

theorem only_bar : ∀ sm : SemLoc sig, sm.isScoped .tc = false → sm = .reg barS := by decide

/-- What is read off a device at the end. -/
def seen (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v20) = finF (xAt m) (wAt m) c) ∧ s.sem (cell .bar c) = 0

theorem read_end (c : Dev nD) (s' : Phys nD τ sig (Elt F)) : iprop(ends m c ∗ SI s') ⊢ (|={Set.univ}=> iprop(⌜seen m c s'.mem⌝ ∗ SI s') : sProp 𝕄) := by
  unfold ends StableHlo.held
  iintro ⟨⟨Hh, Hb⟩, HSI⟩
  icombine HSI Hb gives %hb
  ihave Hr := (pointsTo_read_all (Pipeline.ucRefs τ sig) (fun b => ((c : Thread nD τ).1, b)) (V6 m (outs m) c) s') $$ [Hh HSI]
  · isplitl [Hh] <;> iassumption
  icases Hr with ⟨%h, HSI⟩
  imodintro
  isplitr
  · ipureintro
    have hm : ∀ r : Ref sig .tc, ¬(Proc.devRef .tc r : DevRef τ sig).isScoped = true → _ := fun r hr =>
      h (Proc.devRef .tc r) (Finset.mem_filter.mpr ⟨StableHlo.devRef_mem_tcRefs r, hr⟩)
    exact ⟨⟨(hm main_arg0 (by decide)).trans (V6_main_arg0 m (outs m) c), (hm main_arg1 (by decide)).trans (V6_main_arg1 m (outs m) c),
      (hm main_v20 (by decide)).trans (V6_v20 m c)⟩, by simpa using hb⟩
  · iexact HSI

set_option backward.isDefEq.respectTransparency.types false in
/-- The run. -/
theorem run_all : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v20) = finF (xAt m) (wAt m) c) ∧ r.2.sem = fun _ => 0) :=
  Pipeline.θ_run_regions_kit_dev_sems (pcfgs (F := F)) adm (dats m) () cellOf_inj EP defs₀ 𝒱₀ L lv m ρ main
    (segs m 𝒱₀ L lv (rests m) () (dats m) (reg m))
    (fun c Q => by
      rewrite [main_chain c, Seg.run_eq_chain,
        show (segs m 𝒱₀ L lv (rests m) () (dats m) (reg m) c).map Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact .rfl)
    (fun c => by simp only [segs, Seg.pipes_host, Seg.pipes_region, Seg.pipes_nil]; decide)
    (O₀ := owe0) (hL := L_of_ne) (G := atDev 0 (BI.own (ER seedR)))
    (u₀ := (initOf (Pipeline.cells (Pipeline.pin (pcfgs (F := F)) adm) cellOf_inj) (Pipeline.launchToks (Pipeline.pin (pcfgs (F := F)) adm) cellOf_inj), seedR))
    (hu₀ := by
      iintro Hu
      ihave H := (ownU_pair _ _) $$ Hu
      icases H with ⟨HP, HX⟩
      imodintro
      isplitl [HP]; · iexact HP
      rw [atDev_all]; iexact HX)
    (T₀ := fun c => iprop(StableHlo.held (c : Thread nD τ) (Pipeline.ucRefs τ sig) (V0 m c) ∗ rests m 0 c)) (Tₙ := ends m)
    (hch := fun c => ⟨.rfl, .rfl, .rfl, .rfl, .rfl, region_pre m c, region_post m c⟩)
    (hinit := launch_all m ρ) (QY := seen m) (hfin := read_end m)
    (hQ := fun s h hs => ⟨fun c => (h c).1, sem_eq_zero hs fun c sm hsm => by
      obtain rfl := only_bar sm hsm
      exact (h c).2⟩)

end Cert.KernelIdeal.Talk
-- ==== Proof.Maxima.lean ====
/-
  Maxima and products of extended reals, with no program in sight: a reduction by maximum from minus infinity is a
  supremum, five rounds of pairwise maxima reach every device's number, and a matrix product read at an entry.
-/
module

public import proofs.«01_k».proof.Proof.Cycle
public import Idealize.ShloMosaic.PureOps.Ideal.Laws
public import Idealize.ShloMosaic.Lib.MatmulPlain
public import Idealize.ShloMosaic.Lib.IdealHost
public import Idealize.ShloMosaic.Lib.ValueIdx
public import Mathlib.Tactic.Linarith
public import Mathlib.Tactic.FieldSimp
public import Mathlib.Tactic.Positivity

@[expose] public section
noncomputable section

namespace Cert.Maxima

open Idealize.ShloMosaic Idealize.ShloMosaic.ValueIdx Cert.Ring

/-- The word of minus infinity is the bottom extended real. -/
theorem minusInf : Ideal.ofBits .f32 0xFF800000#32 = (⊥ : EReal) := by
  simp [Ideal.ofBits, Ideal.ieee]

/-- Folding the maximum from the bottom is the supremum. -/
theorem fold_eq_sup {ι : Type} (s : Finset ι) (f : ι → EReal) : s.fold max ⊥ f = s.sup f := rfl

/-- A relabelled array has the same supremum. -/
theorem sup_reshape {s t : Shape} (x : s.Idx → EReal) (h : s.ShapeCasts t) :
    Finset.univ.sup (shapeCast t x h) = Finset.univ.sup x := by
  refine le_antisymm (Finset.sup_le fun i _ => ?_) (Finset.sup_le fun i _ => ?_)
  · exact Finset.le_sup (f := x) (Finset.mem_univ _)
  · obtain ⟨j, hj⟩ := (Shape.reshapeEquiv h).surjective i
    have e : shapeCast t x h j = x i := congrArg x hj
    rw [← e]
    exact Finset.le_sup (f := shapeCast t x h) (Finset.mem_univ j)

/-- The kernel's reduction by maximum to one number is the supremum of the whole array. -/
theorem reduce_eq_sup {s t : Shape} {axes : List (Fin s.rank)} (ht : ∀ j k : t.Idx, j = k) (x : FVec Ideal s .f32)
    (h : s.Reduces axes t) (hφ : FKind.Formats .f32) (ha : (0xFF800000#32 : BitVec 32) = FKind.maximumf.neutral .f32 hφ) (j : t.Idx) :
    multiReduction .maximumf axes t x 0xFF800000#32 h hφ ha j = Finset.univ.sup x := by
  rw [multiReduction_maximumf_eq_fold, Finset.filter_true_of_mem fun i _ => ht _ _]
  show Finset.univ.fold max (Ideal.ofBits .f32 0xFF800000#32) x = _
  rw [minusInf, fold_eq_sup]

/-- So is the host's. -/
theorem hostReduce_eq_sup {s t u : Shape} {axes : List (Fin s.rank)} (ht : ∀ j k : t.Idx, j = k) (x : FVec Ideal s .f32)
    (h : s.ReducesTo axes t) (hu : 0 < u.numel) (j : t.Idx) :
    Host.reduce FloatOps.maximumf x (constant (F := Ideal) u .f32 0xFF800000#32) h hu j = Finset.univ.sup x := by
  rw [Host.reduce_eq_fold, Finset.filter_true_of_mem fun i _ => ht _ _]
  show Finset.univ.fold max (Ideal.ofBits .f32 0xFF800000#32) x = _
  rw [minusInf, fold_eq_sup]

/-- What each device holds after `k` rounds of taking the maximum with its partner of the round. -/
def rounds (a : Fin 32 → EReal) : ℕ → Fin 32 → EReal
  | 0, c => a c
  | k + 1, c => max (rounds a k c) (rounds a k (pt c k))

theorem rounds_le (a : Fin 32 → EReal) : ∀ (k : ℕ) (c : Fin 32), rounds a k c ≤ Finset.univ.sup a
  | 0, c => Finset.le_sup (f := a) (Finset.mem_univ c)
  | k + 1, c => max_le (rounds_le a k c) (rounds_le a k (pt c k))

/-- Two numbers that agree above bit `k` agree from bit `k` on, or one agrees with the other's partner. -/
theorem agree_step : ∀ (k : Fin 5) (c o : Fin 32), o.val / 2 ^ (k.val + 1) = c.val / 2 ^ (k.val + 1) →
    o.val / 2 ^ k.val = c.val / 2 ^ k.val ∨ o.val / 2 ^ k.val = (pt c k.val).val / 2 ^ k.val := by decide +kernel

theorem le_rounds (a : Fin 32 → EReal) : ∀ (k : ℕ), k ≤ 5 → ∀ c o : Fin 32, o.val / 2 ^ k = c.val / 2 ^ k → a o ≤ rounds a k c
  | 0, _, c, o, h => by
    have e : o = c := Fin.ext (by simpa using h)
    exact e ▸ le_rfl
  | k + 1, hk, c, o, h => by
    rcases agree_step ⟨k, hk⟩ c o h with h | h
    · exact le_max_of_le_left (le_rounds a k (by omega) c o h)
    · exact le_max_of_le_right (le_rounds a k (by omega) (pt c k) o h)

/-- After five rounds every device holds the maximum of all. -/
theorem rounds_five (a : Fin 32 → EReal) (c : Fin 32) : rounds a 5 c = Finset.univ.sup a :=
  le_antisymm (rounds_le a 5 c) (Finset.sup_le fun o _ => le_rounds a 5 le_rfl c o (by
    have := o.isLt; have := c.isLt; show o.val / 32 = c.val / 32; omega))

/-- The entry of a product of two matrices. -/
def prod {M K N : ℕ} (A : (⟨2, ![M, K]⟩ : Shape).Idx → EReal) (B : (⟨2, ![K, N]⟩ : Shape).Idx → EReal)
    (r : Fin M) (j : Fin N) : EReal := ∑ k : Fin K, A (ix2 r k) * B (ix2 k j)

/-- Absolute value. -/
def mag (x : EReal) : EReal := max x (-x)

/-- An entry, divided by the scale and multiplied by it again; the scale is the greatest magnitude over 448. -/
def requant (v a : EReal) : EReal :=
  Ideal.div v (Ideal.div a (Ideal.ofBits .f32 0x43E00000#32)) * Ideal.div a (Ideal.ofBits .f32 0x43E00000#32)

/-- The greatest finite number of the format, and its negative. -/
theorem limit_pos : Ideal.ofBits .f32 0x43E00000#32 = ((448 : ℝ) : EReal) := by
  simp [Ideal.ofBits, Ideal.ieee]; norm_num [← EReal.coe_mul]
theorem limit_neg : Ideal.ofBits .f32 0xC3E00000#32 = ((-448 : ℝ) : EReal) := by
  simp [Ideal.ofBits, Ideal.ieee]; norm_num [← EReal.coe_mul]

/-- The clip at the format's greatest number changes nothing: no entry is greater in magnitude than the greatest. -/
theorem clip_requant (v a : EReal) (h : mag v ≤ a) :
    min (max (Ideal.div v (Ideal.div a (Ideal.ofBits .f32 0x43E00000#32))) (Ideal.ofBits .f32 0xC3E00000#32)) (Ideal.ofBits .f32 0x43E00000#32)
      * Ideal.div a (Ideal.ofBits .f32 0x43E00000#32) = requant v a := by
  have h1 : v ≤ a := (le_max_left _ _).trans h
  have h2 : -v ≤ a := (le_max_right _ _).trans h
  unfold requant
  rw [limit_pos, limit_neg]
  have hs : Ideal.div a ((448 : ℝ) : EReal) = a * ((1 / 448 : ℝ) : EReal) := Ideal.div_coe (by norm_num) a
  rw [hs]
  induction a using EReal.rec with
  | bot =>
    have e : v = ⊥ := le_bot_iff.mp h1
    rw [e, EReal.neg_bot] at h2
    exact absurd (le_bot_iff.mp h2) (by decide)
  | top =>
    rw [EReal.top_mul_coe_of_pos (by norm_num)]
    have z : Ideal.div v ⊤ = 0 := by
      unfold Ideal.div
      rw [if_neg EReal.top_ne_zero, EReal.inv_top, mul_zero]
    rw [z, max_eq_left (by exact_mod_cast (by norm_num : (-448 : ℝ) ≤ 0)), min_eq_left (by exact_mod_cast (by norm_num : (0 : ℝ) ≤ 448))]
  | coe r =>
    induction v using EReal.rec with
    | bot => rw [EReal.neg_bot] at h2; exact absurd (top_le_iff.mp h2) (EReal.coe_ne_top r)
    | top => exact absurd (top_le_iff.mp h1) (EReal.coe_ne_top r)
    | coe x =>
      have h1 : x ≤ r := by exact_mod_cast h1
      have h2 : -x ≤ r := by exact_mod_cast h2
      rw [← EReal.coe_mul]
      by_cases hr : r = 0
      · rw [hr, zero_mul, EReal.coe_zero, mul_zero, mul_zero]
      · have hp : 0 < r := lt_of_le_of_ne (by linarith) (Ne.symm hr)
        have hd : r * (1 / 448) ≠ 0 := by positivity
        rw [Ideal.div_coe hd, ← EReal.coe_mul]
        have l1 : -448 ≤ x * (1 / (r * (1 / 448))) := by
          have e : x * (1 / (r * (1 / 448))) = x * 448 / r := by field_simp
          rw [e, le_div_iff₀ hp]; linarith
        have l2 : x * (1 / (r * (1 / 448))) ≤ 448 := by
          have e : x * (1 / (r * (1 / 448))) = x * 448 / r := by field_simp
          rw [e, div_le_iff₀ hp]; linarith
        rw [max_eq_left (by exact_mod_cast l1), min_eq_left (by exact_mod_cast l2)]

end Cert.Maxima
-- ==== Proof.KernelIdealValue.lean ====
/-
  What the kernel's result is over the extended reals: device `c`'s array holds, at each entry, the entry of the
  product of `x` with the device's columns of `w`, divided by the common scale and multiplied by it again.
-/
module

public import proofs.«01_k».proof.Proof.KernelIdealSched
public import proofs.«01_k».proof.Proof.Maxima
public import Idealize.ShloMosaic.Lib.Pipeline.Value

@[expose] public section
noncomputable section

namespace Cert.KernelIdeal.Talk

open Cert.KernelIdeal Cert.KernelIdeal.Gen Cert.Ring Cert.Maxima
open Idealize.ShloMosaic Idealize.ShloMosaic.ValueIdx

attribute [local irreducible] pt

/-- The one index of a single number's shape. -/
theorem one_S1 : ∀ j k : S1.Idx, j = k := fun j k => funext fun a => by
  match a with
  | ⟨0, _⟩ => exact Fin.ext (by have h1 : (j 0).val < 1 := (j 0).isLt; have h2 : (k 0).val < 1 := (k 0).isLt; show (j 0).val = (k 0).val; omega)

/-- A device's own maximum is the greatest magnitude in its product. -/
theorem own_max (x : Vec Ideal S4096x256 .f32) : k0_pay36 x = Finset.univ.sup fun i => mag (x i) := by
  have e : multiReduction (F := Ideal) (φ := .f32) .maximumf [1, 2] S1 (shapeCast S1x4096x256 (absf (shapeCast S4096x256 x shapeCasts_S4096x256_S4096x256))
      shapeCasts_S4096x256_S1x4096x256) 0xFF800000#32 reduces_S1x4096x256_S1 (.inl rfl) rfl = fun _ => Finset.univ.sup fun i => mag (x i) := by
    funext j
    refine (reduce_eq_sup one_S1 _ _ _ _ j).trans ((sup_reshape _ _).trans ?_)
    rw [shapeCast_self]
    rfl
  unfold k0_pay36
  dsimp only
  rw [e]
  rfl

/-- One round of the exchange takes the maximum with the number received. -/
theorem round_max (v b : Ideal .f32) : k0_pay38 (F := Ideal) v (fun _ => b) = (max v b : EReal) := by
  have e : multiReduction (F := Ideal) (φ := .f32) .maximumf [1, 2] S1 (fun _ : S1x1x1.Idx => b) 0xFF800000#32 reduces_S1x1x1_S1 (.inl rfl) rfl = fun _ => b := by
    funext j
    refine (reduce_eq_sup one_S1 _ _ _ _ j).trans ?_
    exact Finset.sup_const ⟨(ix3 (0 : Fin 1) (0 : Fin 1) (0 : Fin 1) : S1x1x1.Idx), Finset.mem_univ _⟩ b
  unfold k0_pay38
  dsimp only
  have e' : shapeCast S1x1x1 (shapeCast S1x1 (fun _ : S1x1x1.Idx => b) shapeCasts_S1x1x1_S1x1) shapeCasts_S1x1_S1x1x1 = fun _ => b := rfl
  rw [e', e]
  rfl

variable (X : Dev nD → Vec Ideal S128x4096 .bf16) (Wt : Dev nD → Vec Ideal S4096x256 .bf16)

theorem cur_eq : ∀ (k : ℕ) (c : Dev nD), cur X Wt k c = rounds (fun c => Finset.univ.sup fun i => mag (outF X Wt c i)) k c
  | 0, c => own_max _
  | k + 1, c => by
    show k0_pay38 (cur X Wt k c) (fun _ => cur X Wt k (pt c k)) = max _ _
    rw [round_max, cur_eq k c, cur_eq k (pt c k)]

/-- The greatest magnitude over all the devices' products. -/
def amaxK : EReal := Finset.univ.sup fun c : Fin 32 => Finset.univ.sup fun i => mag (outF X Wt c i)

theorem scale_eq (c : Dev nD) : k0_pay46 (cur X Wt 4 c) (fun _ => cur X Wt 4 (pt c 4)) = Ideal.div (amaxK X Wt) (Ideal.ofBits .f32 0x43E00000#32) := by
  show Ideal.div (k0_pay38 (cur X Wt 4 c) (fun _ => cur X Wt 4 (pt c 4))) _ = _
  rw [show k0_pay38 (cur X Wt 4 c) (fun _ => cur X Wt 4 (pt c 4)) = cur X Wt 5 c from rfl, cur_eq, rounds_five]
  rfl

/-- An entry of the device's result, from the entry of its product. -/
theorem fin_apply (c : Dev nD) (i : S4096x256.Idx) : finF X Wt c i = requant (outF X Wt c i) (amaxK X Wt) := by
  show Ideal.div (shapeCast S4096x256 (outF X Wt c) shapeCasts_S4096x256_S4096x256 i)
    (k0_pay46 (cur X Wt 4 c) (fun _ => cur X Wt 4 (pt c 4))) * k0_pay46 (cur X Wt 4 c) (fun _ => cur X Wt 4 (pt c 4)) = _
  have e : shapeCast S4096x256 (outF X Wt c) shapeCasts_S4096x256_S4096x256 = outF X Wt c := shapeCast_self (s := S4096x256) _ _
  rw [scale_eq, e]
  rfl

/-- An entry of the device's product. -/
theorem out_apply (c : Dev nD) (i : S4096x256.Idx) : outF X Wt c i = prod (X ⟨(i 0).val / 128, Nat.div_lt_of_lt_mul (i 0).isLt⟩) (Wt c)
    (⟨(i 0).val % 128, Nat.mod_lt _ (by decide)⟩ : Fin 128) (i 1) := by
  have e : ∀ (x : Vec Ideal S128x4096 .bf16) (w : Vec Ideal S4096x256 .bf16) (r : Fin 128) (j : Fin 256),
      k0_pay3 (k0_pay2 x) w (ix2 r j) = prod x w r j := fun x w r j => by
    show matmul (DotDims.plain 128 4096 256) none (shapeCast S128x4096 (shapeCast S1x128x4096 (shapeCast S128x4096 x _) _) _)
      (shapeCast S4096x256 w _) (constant (F := Ideal) S128x256 .f32 0x00000000#32) (ix2 r j) = _
    rw [shapeCast_shapeCast, shapeCast_self, shapeCast_self]
    refine (Ideal.matmul_plain_apply none x w _ r j).trans ?_
    have z : constant (F := Ideal) S128x256 .f32 0x00000000#32 (ix2 r j) = 0 := by
      show Ideal.ofBits .f32 0x00000000#32 = 0
      simp [Ideal.ofBits, Ideal.ieee]
    rw [z, zero_add]; rfl
  exact e _ _ _ _

end Cert.KernelIdeal.Talk
-- ==== Proof.RefValue.lean ====
/-
  What the reference's result is over the extended reals: at each entry, the entry of the product of `x` and `w`,
  divided by the scale and multiplied by it again; the scale is the product's greatest magnitude over 448.
-/
module

public import proofs.«01_k».proof.Proof.Gen.ReferenceIdeal.Value
public import proofs.«01_k».proof.Proof.Maxima
public import Idealize.ShloMosaic.Lib.StableHlo.RunRead
public import Idealize.ShloMosaic.Lib.Pipeline.ValueKit.Basic

@[expose] public section
noncomputable section

namespace Cert.ReferenceIdeal.Whole

open Cert.ReferenceIdeal Cert.ReferenceIdeal.Gen Cert.Maxima
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-- The argument `x`. -/
def xW : Vec Ideal S4096x4096 .bf16 := m ((c : Thread nD τ).loc main_arg0)
/-- The argument `w`. -/
def wW : Vec Ideal S4096x8192 .bf16 := m ((c : Thread nD τ).loc main_arg1)
/-- Their product. -/
def yW : Vec Ideal S4096x8192 .f32 := fun i => prod (xW m c) (wW m c) (i 0) (i 1)
/-- Its greatest magnitude. -/
def amaxW : EReal := Finset.univ.sup fun i => mag (yW m c i)

/-! ## The host lines -/

/-- The product, as the host computes it. -/
def hostY (x : Vec Ideal S4096x4096 .bf16) (w : Vec Ideal S4096x8192 .bf16) : FVec Ideal S4096x8192 .f32 :=
  Host.dotGeneral (F := Ideal) (φ₁ := .f32) (φ₂ := .f32) dot_S4096x4096_S4096x8192_S4096x8192_1_0_0_1_n_n none (extf .f32 x bitsLt_bf16_f32) (extf .f32 w bitsLt_bf16_f32)

theorem host_prod (x : Vec Ideal S4096x4096 .bf16) (w : Vec Ideal S4096x8192 .bf16) :
    hostY x w = (fun i => prod x w (i 0) (i 1) : Vec Ideal S4096x8192 .f32) := by
  funext i
  show Ideal.matmul (DotDims.plain 4096 4096 8192) x w (fun _ => 0) i = _
  refine Eq.trans (congrArg _ (eq_ix2 i)) ?_
  refine (Ideal.matmul_plain_apply (φ₁ := .f32) (φ₂ := .f32) none x w (fun _ => 0) (i 0) (i 1)).trans ?_
  rw [zero_add]; rfl

theorem read_y : V m c main_v2 = yW m c := by
  have h : V m c main_v2 = hostY (xW m c) (wW m c) := by
    unfold V; after_reads_simp; rfl
  exact h.trans (host_prod _ _)

theorem read_amax : V m c main_v5 = (fun _ => amaxW m c : Vec Ideal S1x1 .f32) := by
  have h : V m c main_v5 = shapeCast S1x1 (Host.reduce FloatOps.maximumf (Host.absf (hostY (xW m c) (wW m c)))
      (constant (F := Ideal) S_ .f32 0xFF800000#32) reducesTo_S4096x8192_S_d0_1 h_S_) shapeCasts_S_S1x1 := by
    unfold V; after_reads_simp; rfl
  refine h.trans (funext fun i => ?_)
  rw [host_prod]
  exact hostReduce_eq_sup (fun j k => funext fun a => a.elim0) _ _ _ _

/-! ## The windows -/

theorem blk_0 (t : Fin cfg0.N) (f : (main_v2 : Ref sig .tc).ty.Contents (Elt Ideal)) : (win0_0.blk t).view.read (Elt Ideal) f = f := by
  funext i
  show f _ = f i
  congr 1
  funext a
  match a with
  | ⟨0, _⟩ => exact Fin.ext (by show 0 * 4096 + 1 * (i 0).val = (i 0).val; omega)
  | ⟨1, _⟩ => exact Fin.ext (by show 0 * 8192 + 1 * (i 1).val = (i 1).val; omega)
theorem blk_1 (t : Fin cfg0.N) (f : (main_v5 : Ref sig .tc).ty.Contents (Elt Ideal)) : (win0_1.blk t).view.read (Elt Ideal) f = f := by
  funext i
  show f _ = f i
  congr 1
  funext a
  match a with
  | ⟨0, _⟩ => exact Fin.ext (by show 0 * 1 + 1 * (i 0).val = (i 0).val; omega)
  | ⟨1, _⟩ => exact Fin.ext (by show 0 * 1 + 1 * (i 1).val = (i 1).val; omega)
theorem blk_2 (t : Fin cfg0.N) (f : (main_v6 : Ref sig .tc).ty.Contents (Elt Ideal)) : (win0_2.blk t).view.read (Elt Ideal) f = f := by
  funext i
  show f _ = f i
  congr 1
  funext a
  match a with
  | ⟨0, _⟩ => exact Fin.ext (by show 0 * 4096 + 1 * (i 0).val = (i 0).val; omega)
  | ⟨1, _⟩ => exact Fin.ext (by show 0 * 8192 + 1 * (i 1).val = (i 1).val; omega)

/-- The reference's result. -/
def result : Vec Ideal S4096x8192 .f32 := fun i => requant (yW m c i) (amaxW m c)

/-- What the body writes, from its two loads. -/
theorem out_loads (x : Vec Ideal S4096x8192 .f32) (a : Vec Ideal S1x1 .f32) : out0_2 x a = Value.E2 x a := by
  have e : View.ld x r0_1 = x := View.ld_unit_lit (S := S4096x8192) inb_S4096x8192_S4096x8192_0_0 x (by decide)
  have e1 : View.ld a r0_0 = a := View.ld_unit_lit (S := S1x1) inb_S1x1_S1x1_0_0 a (by decide)
  unfold out0_2
  rw [e, e1]
  exact funext (Value.canon2_eq x a)

/-- The clip has nothing to clip where no entry is greater in magnitude than the scale allows. -/
theorem out_eq (x : Vec Ideal S4096x8192 .f32) (a : EReal) (ha : ∀ i, mag (x i) ≤ a) :
    out0_2 (F := Ideal) x (fun _ => a) = fun i => requant (x i) a := by
  rw [out_loads]
  funext y
  have hy : Value.ix2_0 y = y := by
    funext b
    match b with
    | ⟨0, _⟩ => rfl
    | ⟨1, _⟩ => rfl
  refine Eq.trans ?_ (clip_requant (x y) a (ha y))
  show min (max (Ideal.div (x (Value.ix2_0 y)) _) _) _ * _ = _
  rw [hy]
  rfl

theorem final : (dats m 0 c).arrAt 2 cfg0.N = result m c := by
  have t : Fin cfg0.N := ⟨0, by decide⟩
  have h := Value.blocks2 m c t (by revert t; decide)
  have hr : ((cfg0.win 2).blk t).view.read (Elt Ideal) ((dats m 0 c).arrAt 2 cfg0.N) = (dats m 0 c).arrAt 2 cfg0.N := blk_2 t _
  rw [hr] at h
  refine h.trans ((Value.flushed2 m c t).trans ?_)
  have h0 : iblk m c 0 t = yW m c := (blk_0 t _).trans (read_y m c)
  have h1 : iblk m c 1 t = (fun _ => amaxW m c : Vec Ideal S1x1 .f32) := (blk_1 t _).trans (read_amax m c)
  rw [h0, h1]
  exact out_eq _ _ fun i => Finset.le_sup (f := fun i => mag (yW m c i)) (Finset.mem_univ i)

/-- The reference runs, leaves that in its result and its arguments as they were. -/
theorem run : θ_run defs (onTc (τ := τ) (main (F := Ideal))) ⟨m, fun _ => 0, ρ⟩ fun r => ∀ c : Dev nD,
    r.2.mem ((c : Thread nD τ).loc main_v6) = result m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.ReferenceIdeal.Whole
-- ==== Proof.Blocks.lean ====
/-
  The two results beside each other: when device `c` holds its block of rows of `x` and its block of columns of `w`,
  its result is block `c`, by columns, of the reference's.
-/
module

public import proofs.«01_k».proof.Proof.KernelIdealValue
public import proofs.«01_k».proof.Proof.RefValue
public import Idealize.ShloMosaic.Lib.Layout

@[expose] public section
noncomputable section

namespace Cert.Blocks

open Idealize.ShloMosaic Idealize.ShloMosaic.ValueIdx Cert.Maxima
open Cert.KernelIdeal.Talk (outF finF out_apply fin_apply amaxK)

variable (A : (⟨2, ![4096, 4096]⟩ : Shape).Idx → EReal) (B : (⟨2, ![4096, 8192]⟩ : Shape).Idx → EReal)

/-- Device `c`'s rows of `x`. -/
def rows (c : Fin 32) : Vec Ideal ⟨2, ![128, 4096]⟩ .bf16 := Layout.block ⟨2, ![128, 4096]⟩ ⟨2, ![4096, 4096]⟩ 0 32 c A
/-- Device `c`'s columns of `w`. -/
def cols (c : Fin 32) : Vec Ideal ⟨2, ![4096, 256]⟩ .bf16 := Layout.block ⟨2, ![4096, 256]⟩ ⟨2, ![4096, 8192]⟩ 1 32 c B

/-- The column of the whole array that is column `j` of block `c`. -/
def col (c : Fin 32) (j : Fin 256) : Fin 8192 := ⟨c.val * 256 + j.val, by omega⟩

theorem rows_apply (c : Fin 32) (r : Fin 128) (k : Fin 4096) : rows A c (ix2 r k) = A (ix2 (⟨c.val * 128 + r.val, by omega⟩ : Fin 4096) k) :=
  congrArg A (funext fun a => by
    match a with
    | ⟨0, _⟩ => rfl
    | ⟨1, _⟩ => rfl)
theorem cols_apply (c : Fin 32) (k : Fin 4096) (j : Fin 256) : cols B c (ix2 k j) = B (ix2 k (col c j)) :=
  congrArg B (funext fun a => by
    match a with
    | ⟨0, _⟩ => rfl
    | ⟨1, _⟩ => rfl)

/-- An entry of device `c`'s product is the entry of the whole product in the device's columns. -/
theorem out_entry (c : Fin 32) (r : Fin 4096) (j : Fin 256) :
    outF (F := Ideal) (rows A) (cols B) c (ix2 r j) = prod A B r (col c j) := by
  have e : (⟨r.val / 128 * 128 + r.val % 128, by omega⟩ : Fin 4096) = r := Fin.ext (Nat.div_add_mod' _ _)
  have h : prod (rows A ⟨r.val / 128, by omega⟩) (cols B c) (⟨r.val % 128, by omega⟩ : Fin 128) j = prod A B r (col c j) :=
    Finset.sum_congr rfl fun k _ => by
      rw [cols_apply, rows_apply]
      exact congrArg (fun q => A (ix2 q k) * B (ix2 k (col c j))) e
  exact (out_apply (rows A) (cols B) c (ix2 r j)).trans h

/-- The maximum over the devices of their greatest magnitudes is the greatest magnitude of the whole product. -/
theorem amax_eq : amaxK (rows A) (cols B) = Finset.univ.sup fun i : (⟨2, ![4096, 8192]⟩ : Shape).Idx => mag (prod A B (i 0) (i 1)) := by
  refine le_antisymm (Finset.sup_le fun c _ => Finset.sup_le fun i _ => ?_) (Finset.sup_le fun i _ => ?_)
  · have e : outF (F := Ideal) (rows A) (cols B) c i = prod A B (i 0) (col c (i 1)) :=
      (congrArg _ (eq_ix2 i)).trans (out_entry A B c (i 0) (i 1))
    rw [e]
    exact Finset.le_sup (f := fun i : (⟨2, ![4096, 8192]⟩ : Shape).Idx => mag (prod A B (i 0) (i 1))) (Finset.mem_univ (ix2 (i 0) (col c (i 1))))
  · have h1 : (i 1).val < 8192 := (i 1).isLt
    let c : Fin 32 := ⟨(i 1).val / 256, by omega⟩
    let j : Fin 256 := ⟨(i 1).val % 256, by omega⟩
    have hc : col c j = i 1 := Fin.ext (Nat.div_add_mod' _ _)
    have e : mag (prod A B (i 0) (i 1)) = mag (outF (F := Ideal) (rows A) (cols B) c (ix2 (i 0) j)) :=
      congrArg mag (((out_entry A B c (i 0) j).trans (congrArg (prod A B (i 0)) hc)).symm)
    rw [e]
    exact (Finset.le_sup (f := fun i => mag (outF (F := Ideal) (rows A) (cols B) c i)) (Finset.mem_univ (ix2 (i 0) j))).trans
      (Finset.le_sup (f := fun c : Fin 32 => Finset.univ.sup fun i => mag (outF (F := Ideal) (rows A) (cols B) c i)) (Finset.mem_univ c))

/-- The device's result is its block of the reference's. -/
theorem result_block (m' : (ℓ : Loc Cert.ReferenceIdeal.nD Cert.ReferenceIdeal.τ Cert.ReferenceIdeal.sig) → Buf (Elt Ideal) ℓ) (c : Fin 32) :
    finF (F := Ideal) (rows (Cert.ReferenceIdeal.Whole.xW m' 0)) (cols (Cert.ReferenceIdeal.Whole.wW m' 0)) c
      = Layout.block ⟨2, ![4096, 256]⟩ ⟨2, ![4096, 8192]⟩ 1 32 c (Cert.ReferenceIdeal.Whole.result m' 0) := by
  funext i
  refine (fin_apply _ _ c i).trans ?_
  rw [amax_eq]
  have e : outF (F := Ideal) (rows (Cert.ReferenceIdeal.Whole.xW m' 0)) (cols (Cert.ReferenceIdeal.Whole.wW m' 0)) c i = prod _ _ (i 0) (col c (i 1)) :=
    (congrArg _ (eq_ix2 i)).trans (out_entry _ _ c (i 0) (i 1))
  rw [e]
  rfl

end Cert.Blocks
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelRun
public import proofs.«01_k».proof.Proof.KernelIdealRun
public import proofs.«01_k».proof.Proof.Blocks
public import Idealize.ShloMosaic.Adequacy
public import Idealize.ShloMosaic.Init

@[expose] public section

noncomputable section

namespace Cert.Proof

open Idealize.ShloMosaic Idealize.SL.Sem Cert.Kernel

/-- The compiled program runs, keeps its arguments and leaves every counter at zero. -/
theorem frameK : quiescent_Kernel (hKernel := Cert.Kernel.Gen.facts) := fun m g _ =>
  (θ_run _ _ _).mono (fun _ h => ⟨fun c => ⟨(h.1 c).1, (h.1 c).2.1⟩, h.2⟩) (Cert.Kernel.Talk.run_all m g)

/-- So does the program read over the extended reals. -/
theorem frameI : quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.Talk.run_all m g)

/-- Each device's result is its block of columns of the reference's. -/
theorem algebraic : algebraic_KernelIdeal_ReferenceIdeal (hKernelIdeal := Cert.KernelIdeal.Gen.facts)
    (hReferenceIdeal := Cert.ReferenceIdeal.Gen.facts) := fun m g m' g' _ hin => by
  refine ⟨Cert.ReferenceIdeal.Whole.result m' 0, ?_, ?_⟩
  · have hx : Cert.KernelIdeal.Talk.xAt m = Cert.Blocks.rows (Cert.ReferenceIdeal.Whole.xW m' 0) := funext fun c => (hin c).1
    have hw : Cert.KernelIdeal.Talk.wAt m = Cert.Blocks.cols (Cert.ReferenceIdeal.Whole.wW m' 0) := funext fun c => (hin c).2
    have run := Cert.KernelIdeal.Talk.run_all (F := Ideal) m g
    rw [hx, hw] at run
    exact (θ_run _ _ _).mono (fun _ h c => ⟨(h.1 c).2.2.trans (Cert.Blocks.result_block m' c), (h.1 c).1, (h.1 c).2.1⟩) run
  · exact (θ_run _ _ _).mono (fun _ h => h 0) (Cert.ReferenceIdeal.Whole.run m' g')

theorem claim : Cert.Claim := ⟨Cert.Kernel.Gen.facts, Cert.KernelIdeal.Gen.facts, Cert.ReferenceIdeal.Gen.facts,
  frameK, frameI, fun m g _ => Cert.ReferenceIdeal.Gen.frame m g, trivial, algebraic⟩

end Cert.Proof

end
